-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v1_0)) (v5 : (c : Dev Cert.KernelIdeal.nD) → Buf (Elt Ideal) ((c.tc : Thread Cert.KernelIdeal.nD Cert.KernelIdeal.τ).loc Cert.KernelIdeal.main_v7)) (v6 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v1_0) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_v1_3) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_v39) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x32x32 : Shape := ⟨4, ![32, 64, 32, 32]⟩
abbrev S_ : Shape := ⟨0, ![]⟩
abbrev S1024x64 : Shape := ⟨2, ![1024, 64]⟩
abbrev S32768x64 : Shape := ⟨2, ![32768, 64]⟩
abbrev S32768x1024 : Shape := ⟨2, ![32768, 1024]⟩
abbrev S16x1x2048 : Shape := ⟨3, ![16, 1, 2048]⟩
abbrev S1x1 : Shape := ⟨2, ![1, 1]⟩
abbrev S2048x64 : Shape := ⟨2, ![2048, 64]⟩
abbrev S2048x1024 : Shape := ⟨2, ![2048, 1024]⟩
abbrev S1x1x2048 : Shape := ⟨3, ![1, 1, 2048]⟩
abbrev S1024x65 : Shape := ⟨2, ![1024, 65]⟩
abbrev S1x1024 : Shape := ⟨2, ![1, 1024]⟩
abbrev S64x1024 : Shape := ⟨2, ![64, 1024]⟩
abbrev S1024 : Shape := ⟨1, ![1024]⟩
abbrev S2048 : Shape := ⟨1, ![2048]⟩
abbrev S2048x1 : Shape := ⟨2, ![2048, 1]⟩
abbrev S2048x65 : Shape := ⟨2, ![2048, 65]⟩
abbrev S1x2048x64 : Shape := ⟨3, ![1, 2048, 64]⟩
abbrev S1 : Shape := ⟨1, ![1]⟩
abbrev S1x1x1 : Shape := ⟨3, ![1, 1, 1]⟩
abbrev S1024x1 : Shape := ⟨2, ![1024, 1]⟩
abbrev S1x1024x1 : Shape := ⟨3, ![1, 1024, 1]⟩
abbrev S32768 : Shape := ⟨1, ![32768]⟩
abbrev S32768x1 : Shape := ⟨2, ![32768, 1]⟩

abbrev nBuf : Space → Nat
  | .hbm => 18
  | .vmem => 15
  | .smem => 0
  | _ => 0

abbrev bufTy : (tb : Table) → Fin (tcTables nBuf tb) → BufTy
  | .hbm, ⟨0, _⟩ => ⟨S32x64x32x32, .f32⟩
  | .hbm, ⟨1, _⟩ => ⟨S_, .i32⟩
  | .hbm, ⟨2, _⟩ => ⟨S_, .i32⟩
  | .hbm, ⟨3, _⟩ => ⟨S1024x64, .f32⟩
  | .hbm, ⟨4, _⟩ => ⟨S32768x64, .f32⟩
  | .hbm, ⟨5, _⟩ => ⟨S32768x1024, .f32⟩
  | .hbm, ⟨6, _⟩ => ⟨S32768x64, .f32⟩
  | .hbm, ⟨7, _⟩ => ⟨S16x1x2048, .i32⟩
  | .hbm, ⟨8, _⟩ => ⟨S1024x64, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x64x32x32, .f32⟩
  | .hbm, ⟨15, _⟩ => ⟨S_, .f32⟩
  | .hbm, ⟨16, _⟩ => ⟨S32768, .i32⟩
  | .hbm, ⟨17, _⟩ => ⟨S32768x1, .i32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S2048x1024, .f32⟩
  | .local _ .vmem, ⟨4, _⟩ => ⟨S2048x1024, .f32⟩
  | .local _ .vmem, ⟨5, _⟩ => ⟨S2048x64, .f32⟩
  | .local _ .vmem, ⟨6, _⟩ => ⟨S2048x64, .f32⟩
  | .local _ .vmem, ⟨7, _⟩ => ⟨S1x1x2048, .i32⟩
  | .local _ .vmem, ⟨8, _⟩ => ⟨S1x1x2048, .i32⟩
  | .local _ .vmem, ⟨9, _⟩ => ⟨S1024x64, .f32⟩
  | .local _ .vmem, ⟨10, _⟩ => ⟨S1x1, .f32⟩
  | .local _ .vmem, ⟨11, _⟩ => ⟨S1x1, .f32⟩
  | .local _ .vmem, ⟨12, _⟩ => ⟨S1024x65, .f32⟩
  | .local _ .vmem, ⟨13, _⟩ => ⟨S1x1, .f32⟩
  | .local _ .vmem, ⟨14, _⟩ => ⟨S1x1024, .f32⟩
  | _, _ => ⟨S32x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v58 : BitVec 1 := Scalar.cmpi .eq arg0 c15_i32
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32x64x32x32 : Shape := ⟨4, ![32, 64, 32, 32]⟩
abbrev S_ : Shape := ⟨0, ![]⟩
abbrev S1024x64 : Shape := ⟨2, ![1024, 64]⟩
abbrev S32768x64 : Shape := ⟨2, ![32768, 64]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1024x1 : Shape := ⟨2, ![1024, 1]⟩

abbrev nBuf : Space → Nat
  | .hbm => 95
  | .vmem => 0
  | .smem => 0
  | _ => 0

abbrev bufTy : (tb : Table) → Fin (tcTables nBuf tb) → BufTy
  | .hbm, ⟨0, _⟩ => ⟨S32x64x32x32, .f32⟩
  | .hbm, ⟨1, _⟩ => ⟨S_, .i32⟩
  | .hbm, ⟨2, _⟩ => ⟨S_, .i32⟩
  | .hbm, ⟨3, _⟩ => ⟨S1024x64, .f32⟩
  | .hbm, ⟨4, _⟩ => ⟨S32768x64, .f32⟩
  | .hbm, ⟨5, _⟩ => ⟨S32768x64, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S1024x64, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S64x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .i32⟩
  | .hbm, ⟨23, _⟩ => ⟨S_, .f32⟩
  | .hbm, ⟨24, _⟩ => ⟨S_, .i32⟩
  | .hbm, ⟨25, _⟩ => ⟨S32768, .f32⟩
  | .hbm, ⟨26, _⟩ => ⟨S32768, .i32⟩
  | .hbm, ⟨27, _⟩ => ⟨S32768x1, .i32⟩
  | .hbm, ⟨28, _⟩ => ⟨S1x1024, .i32⟩
  | .hbm, ⟨29, _⟩ => ⟨S32768x1024, .i32⟩
  | .hbm, ⟨30, _⟩ => ⟨S32768x1024, .i32⟩
  | .hbm, ⟨31, _⟩ => ⟨S32768x1024, .i1⟩
  | .hbm, ⟨32, _⟩ => ⟨S32768x1024, .f32⟩
  | .hbm, ⟨33, _⟩ => ⟨S32768x64, .f32⟩
  | .hbm, ⟨34, _⟩ => ⟨S32x64x32x32, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1024x64, .f32⟩
  | .hbm, ⟨49, _⟩ => ⟨S32768x1, .i32⟩
  | .hbm, ⟨50, _⟩ => ⟨S1024x64, .f32⟩
  | .hbm, ⟨51, _⟩ => ⟨S_, .f32⟩
  | .hbm, ⟨52, _⟩ => ⟨S1024x64, .f32⟩
  | .hbm, ⟨53, _⟩ => ⟨S_, .f32⟩
  | .hbm, ⟨54, _⟩ => ⟨S1024x64, .f32⟩
  | .hbm, ⟨55, _⟩ => ⟨S1024x64, .f32⟩
  | .hbm, ⟨56, _⟩ => ⟨S_, .f32⟩
  | .hbm, ⟨57, _⟩ => ⟨S1024x64, .f32⟩
  | .hbm, ⟨58, _⟩ => ⟨S1024x64, .f32⟩
  | .hbm, ⟨59, _⟩ => ⟨S1024x64, .f32⟩
  | .hbm, ⟨60, _⟩ => ⟨S1024, .f32⟩
  | .hbm, ⟨61, _⟩ => ⟨S1024x1, .f32⟩
  | .hbm, ⟨62, _⟩ => ⟨S1024x64, .f32⟩
  | .hbm, ⟨63, _⟩ => ⟨S1024x64, .f32⟩
  | .hbm, ⟨64, _⟩ => ⟨S32x64x32x32, .f32⟩
  | .hbm, ⟨65, _⟩ => ⟨S32x64x32x32, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S32x64x32x32, .f32⟩
  | .hbm, ⟨73, _⟩ => ⟨S32x64x32x32, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S32x64x32x32, .f32⟩
  | .hbm, ⟨79, _⟩ => ⟨S32x64x32x32, .f32⟩
  | .hbm, ⟨80, _⟩ => ⟨S_, .f32⟩
  | .hbm, ⟨81, _⟩ => ⟨S1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S32768x1, .i32⟩
  | _, _ => ⟨S32x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_cst_14 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_15 : Ref sig .tc := ⟨.hbm, 80, rfl⟩
abbrev main_v51 : Ref sig .tc := ⟨.hbm, 81, rfl⟩
abbrev main_cst_16 : Ref sig .tc := ⟨.hbm, 82, rfl⟩
abbrev main_v52 : Ref sig .tc := ⟨.hbm, 83, rfl⟩
abbrev main_v53 : Ref sig .tc := ⟨.hbm, 84, rfl⟩
abbrev main_cst_17 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_18 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]
-- ==== Proof.FirstMin.lean ====
/- The first place at which a list of 1024 extended reals is smallest, and the two ways in which the programs find it:
   the kernel takes the smallest value and then the least place that has it, the reference runs through the places
   with a comparison of (value, place) pairs. -/
module

public import Idealize.ShloMosaic.Lib.SortNet.Extract
public import Idealize.ShloMosaic.Lib.Pointwise

@[expose] public section

noncomputable section

namespace Cert.FirstMin

open Idealize.ShloMosaic

/-- Some place has the least value. -/
theorem exists_min (d : Fin 1024 → EReal) : (Finset.univ.filter fun e => ∀ f, d e ≤ d f).Nonempty := by
  obtain ⟨e, _, he⟩ := Finset.exists_min_image Finset.univ d Finset.univ_nonempty
  exact ⟨e, Finset.mem_filter.2 ⟨Finset.mem_univ _, fun f => he f (Finset.mem_univ _)⟩⟩

/-- The first place at which `d` is smallest. -/
def firstMin (d : Fin 1024 → EReal) : Fin 1024 := (Finset.univ.filter fun e => ∀ f, d e ≤ d f).min' (exists_min d)

/-- The value there is the least. -/
theorem firstMin_le (d : Fin 1024 → EReal) (f : Fin 1024) : d (firstMin d) ≤ d f :=
  (Finset.mem_filter.1 (Finset.min'_mem _ (exists_min d))).2 f

/-- No earlier place has it. -/
theorem firstMin_first (d : Fin 1024 → EReal) (f : Fin 1024) (h : d f ≤ d (firstMin d)) : firstMin d ≤ f :=
  Finset.min'_le _ _ (Finset.mem_filter.2 ⟨Finset.mem_univ _, fun g => h.trans (firstMin_le d g)⟩)

/-- The smallest value, taken as a fold from the top. -/
theorem fold_min (d : Fin 1024 → EReal) : Finset.univ.fold min ⊤ d = d (firstMin d) :=
  le_antisymm ((Finset.le_fold_min _).1 le_rfl |>.2 _ (Finset.mem_univ _))
    ((Finset.le_fold_min _).2 ⟨le_top, fun f _ => firstMin_le d f⟩)

/-- A word of a number below 1024, or of 1024 itself, read signed. -/
theorem toInt_ofNat (n : ℕ) (h : n ≤ 1024) : (BitVec.ofNat 32 n).toInt = n := by
  have e : (BitVec.ofNat 32 n).toNat = n := by rw [BitVec.toNat_ofNat]; omega
  rw [BitVec.toInt_eq_toNat_of_lt (by rw [e]; omega), e]

/-- A fold of the signed minimum of words is the fold of the minimum of their integers. -/
theorem toInt_fold_minsi (b : BitVec 32) (w : Fin 1024 → BitVec 32) (S : Finset (Fin 1024)) :
    (S.fold IntOp.minsi b w).toInt = S.fold min b.toInt fun e => (w e).toInt := by
  induction S using Finset.induction_on with
  | empty => rfl
  | insert a S ha ih => rw [Finset.fold_insert ha, Finset.fold_insert ha, SortNet.toInt_minsi, ih]

/-- The kernel's index word: the least place whose value is the smallest one, every other place standing for 1024. -/
theorem fold_minsi (d : Fin 1024 → EReal) (m : EReal) (hm : m = d (firstMin d)) :
    Finset.univ.fold IntOp.minsi 2147483647#32 (fun e : Fin 1024 => if d e = m then BitVec.ofNat 32 ↑e else 1024#32)
      = BitVec.ofNat 32 ↑(firstMin d) := by
  subst hm
  refine BitVec.eq_of_toInt_eq ?_
  rw [toInt_fold_minsi, toInt_ofNat _ (firstMin d).isLt.le]
  refine le_antisymm (((Finset.le_fold_min _).1 le_rfl).2 (firstMin d) (Finset.mem_univ _) |>.trans_eq ?_)
    ((Finset.le_fold_min _).2 ⟨?_, fun f _ => ?_⟩)
  · rw [if_pos rfl, toInt_ofNat _ (firstMin d).isLt.le]
  · have := (firstMin d).isLt
    show ((firstMin d).val : ℤ) ≤ 2147483647
    omega
  · split
    · next h =>
      rw [toInt_ofNat _ f.isLt.le]
      exact_mod_cast firstMin_first d f h.le
    · have := (firstMin d).isLt
      show ((firstMin d).val : ℤ) ≤ 1024
      omega

/-- The order in which the reference takes pairs: by value, then by place. -/
def Le (p q : EReal × BitVec 32) : Prop := p.1 < q.1 ∨ p.1 = q.1 ∧ p.2.toInt ≤ q.2.toInt

theorem Le.refl (p : EReal × BitVec 32) : Le p p := .inr ⟨rfl, le_rfl⟩

theorem Le.trans {p q r : EReal × BitVec 32} (h : Le p q) (k : Le q r) : Le p r := by
  rcases h with h | ⟨h, h'⟩ <;> rcases k with k | ⟨k, k'⟩
  · exact .inl (h.trans k)
  · exact .inl (h.trans_eq k)
  · exact .inl (h.trans_lt k)
  · exact .inr ⟨h.trans k, h'.trans k'⟩

theorem Le.total (p q : EReal × BitVec 32) : Le p q ∨ Le q p := by
  rcases lt_trichotomy p.1 q.1 with h | h | h
  · exact .inl (.inl h)
  · rcases le_total p.2.toInt q.2.toInt with k | k
    · exact .inl (.inr ⟨h, k⟩)
    · exact .inr (.inr ⟨h.symm, k⟩)
  · exact .inr (.inl h)

/-- A fold of a choice of the lesser pair is one of the pairs and is below each of them. -/
theorem foldl_least (R : EReal × BitVec 32 → EReal × BitVec 32 → EReal × BitVec 32)
    (hR : ∀ a b, (R a b = a ∧ Le a b) ∨ (R a b = b ∧ Le b a)) (L : List (EReal × BitVec 32)) (p : EReal × BitVec 32) :
    (L.foldl R p = p ∨ L.foldl R p ∈ L) ∧ Le (L.foldl R p) p ∧ ∀ q ∈ L, Le (L.foldl R p) q := by
  induction L generalizing p with
  | nil => exact ⟨.inl rfl, .refl p, nofun⟩
  | cons a L ih =>
    obtain ⟨h1, h2, h3⟩ := ih (R p a)
    rw [List.foldl_cons]
    have hpa : Le (R p a) p ∧ Le (R p a) a := by
      rcases hR p a with ⟨e, l⟩ | ⟨e, l⟩ <;> rw [e]
      · exact ⟨.refl p, l⟩
      · exact ⟨l, .refl a⟩
    refine ⟨?_, h2.trans hpa.1, fun q hq => ?_⟩
    · rcases h1 with h1 | h1
      · rw [h1]
        rcases hR p a with ⟨e, _⟩ | ⟨e, _⟩ <;> rw [e]
        · exact .inl rfl
        · exact .inr List.mem_cons_self
      · exact .inr (List.mem_cons_of_mem _ h1)
    · rcases List.mem_cons.1 hq with rfl | hq
      · exact h2.trans hpa.2
      · exact h3 q hq

/-- A fold over all the pairs (value, place), in any order, from the pair of the top and place 0, ends at the first minimum's place. -/
theorem foldl_firstMin (d : Fin 1024 → EReal) (R : EReal × BitVec 32 → EReal × BitVec 32 → EReal × BitVec 32)
    (hR : ∀ a b, (R a b = a ∧ Le a b) ∨ (R a b = b ∧ Le b a)) (L : List (EReal × BitVec 32))
    (hL : ∀ p, p ∈ L ↔ ∃ e : Fin 1024, p = (d e, BitVec.ofNat 32 ↑e)) :
    (L.foldl R (⊤, 0#32)).2 = BitVec.ofNat 32 ↑(firstMin d) := by
  obtain ⟨h1, h2, h3⟩ := foldl_least R hR L (⊤, 0#32)
  have h4 : ∀ e : Fin 1024, Le (L.foldl R (⊤, 0#32)) (d e, BitVec.ofNat 32 ↑e) := fun e => h3 _ ((hL _).2 ⟨e, rfl⟩)
  rcases h1 with h1 | h1
  · rw [h1] at h4 ⊢
    have top : ∀ e, d e = ⊤ := fun e => by
      rcases h4 e with h | ⟨h, _⟩
      · exact absurd h not_top_lt
      · exact h.symm
    have : firstMin d ≤ 0 := firstMin_first d 0 (by rw [top, top])
    rw [show firstMin d = 0 from le_antisymm this (Fin.zero_le _)]
    rfl
  · obtain ⟨e, he⟩ := (hL _).1 h1
    rw [he] at h4 ⊢
    have le : ∀ f, d e ≤ d f := fun f => by
      rcases h4 f with h | ⟨h, _⟩
      · exact h.le
      · exact h.le
    have : e ≤ firstMin d := by
      rcases h4 (firstMin d) with h | ⟨_, h⟩
      · exact absurd (firstMin_le d e) (not_le.2 h)
      · have h : (BitVec.ofNat 32 ↑e).toInt ≤ (BitVec.ofNat 32 ↑(firstMin d)).toInt := h
        rw [toInt_ofNat _ e.isLt.le, toInt_ofNat _ (firstMin d).isLt.le] at h
        exact_mod_cast h
    rw [show firstMin d = e from le_antisymm (firstMin_first d e (le _)) this]

end Cert.FirstMin

end
-- ==== Proof.Spec.lean ====
/- The quantisation step told over plain functions: what one row chooses, and the sums over the rows. Both programs are
   brought to these functions. Literals are the programs' own words read as numbers. -/
module

public import proofs.«01_k».proof.Proof.FirstMin
public import Idealize.ShloMosaic.Lib.Pointwise

@[expose] public section

noncomputable section

namespace Cert.Spec

open Idealize.ShloMosaic Cert.FirstMin

/-- A row's expanded squared distance to entry `e` of the codebook: |z|² + |e|² − 2 z·e. -/
def dist (z : Fin 64 → EReal) (E : Fin 1024 → Fin 64 → EReal) (e : Fin 1024) : EReal :=
  (∑ k, z k * z k + ∑ k, E e k * E e k) - Ideal.ofBits .f32 0x40000000#32 * ∑ k, z k * E e k

/-- The first entry at the least distance. -/
def near (z : Fin 64 → EReal) (E : Fin 1024 → Fin 64 → EReal) : Fin 1024 := firstMin (dist z E)

/-- One at the chosen entry, zero elsewhere. -/
def hot (z : Fin 64 → EReal) (E : Fin 1024 → Fin 64 → EReal) (e : Fin 1024) : EReal := if e = near z E then 1 else 0

/-- The row that stands for `z`: the one-hot row times the codebook. -/
def code (z : Fin 64 → EReal) (E : Fin 1024 → Fin 64 → EReal) (k : Fin 64) : EReal := ∑ e, hot z E e * E e k

variable {N : ℕ} (Z : Fin N → Fin 64 → EReal) (E : Fin 1024 → Fin 64 → EReal)

/-- How many rows chose entry `e`. -/
def count (e : Fin 1024) : EReal := ∑ n, hot (Z n) E e

/-- The sum of the rows that chose entry `e`. -/
def rowSum (e : Fin 1024) (k : Fin 64) : EReal := ∑ n, hot (Z n) E e * Z n k

/-- The summed squared difference of the rows and what stands for them. -/
def sqErr : EReal := ∑ n, ∑ k, (code (Z n) E k - Z n k) * (code (Z n) E k - Z n k)

/-- The mean squared difference, over the 2 ^ 21 numbers of the input. -/
def meanErr : EReal := sqErr Z E * Ideal.ofBits .f32 0x35000000#32

/-- The share of the 32768 rows that chose entry `e`. -/
def share (e : Fin 1024) : EReal := count Z E e * Ideal.ofBits .f32 0x38000000#32

/-- The exponential of the shares' entropy. -/
def perp : EReal := Ideal.exp (-∑ e, share Z E e * Ideal.log (share Z E e + Ideal.ofBits .f32 0x2EDBE6FF#32))

/-- The codebook after one moving-average step. -/
def newCode (e : Fin 1024) (k : Fin 64) : EReal :=
  Ideal.div (Ideal.ofBits .f32 0x3F7D70A4#32 + rowSum Z E e k * Ideal.ofBits .f32 0x3C23D70A#32)
    (Ideal.ofBits .f32 0x3F7D70A4#32 + count Z E e * Ideal.ofBits .f32 0x3C23D70A#32)

/-- The rows of a two-axis array. -/
def rowsOf {R K : ℕ} (x : (⟨2, ![R, K]⟩ : Shape).Idx → EReal) (r : Fin R) (k : Fin K) : EReal := x (ix2 r k)

/-! ### The results as arrays, of the input's rows and the codebook -/

section Arrays

variable {R : ℕ} (x : (⟨2, ![R, 64]⟩ : Shape).Idx → EReal) (w : (⟨2, ![1024, 64]⟩ : Shape).Idx → EReal)

/-- The one-hot rows. -/
def hotArr : (⟨2, ![R, 1024]⟩ : Shape).Idx → EReal := fun y => hot (rowsOf x (y 0)) (rowsOf w) (y 1)

/-- The rows that stand for the input's rows, as the input plus the difference. -/
def straightArr : (⟨2, ![R, 64]⟩ : Shape).Idx → EReal := fun y => x y + (code (rowsOf x (y 0)) (rowsOf w) (y 1) - x y)

/-- The chosen entries' words. -/
def nearArr : (⟨1, ![R]⟩ : Shape).Idx → BitVec 32 := fun y => BitVec.ofNat 32 ↑(near (rowsOf x (y 0)) (rowsOf w))

/-- The new codebook. -/
def newArr : (⟨2, ![1024, 64]⟩ : Shape).Idx → EReal := fun y => newCode (rowsOf x) (rowsOf w) (y 0) (y 1)

end Arrays

/-! ### Literals -/

/-- The pattern of the positive infinity is the top. -/
theorem ofBits_top : Ideal.ofBits .f32 2139095040#32 = ⊤ := by
  simp [Ideal.ofBits, Ideal.ieee]

theorem ofBits_one : Ideal.ofBits .f32 0x3F800000#32 = 1 := by
  simp [Ideal.ofBits, Ideal.ieee, -EReal.coe_mul]; norm_num

/-- Dividing by 2 ^ 21 is multiplying by its inverse, which is the other literal. -/
theorem div_numbers (x : EReal) : Ideal.div x (Ideal.ofBits .f32 0x4A000000#32) = x * Ideal.ofBits .f32 0x35000000#32 := by
  have a : Ideal.ofBits .f32 0x4A000000#32 = ((2097152 : ℝ) : EReal) := by
    simp [Ideal.ofBits, Ideal.ieee, -EReal.coe_mul]; norm_num
  have b : Ideal.ofBits .f32 0x35000000#32 = ((1 / 2097152 : ℝ) : EReal) := by
    simp [Ideal.ofBits, Ideal.ieee, -EReal.coe_mul]; norm_num
  rw [a, b, Ideal.div_coe (by norm_num)]

/-- Dividing by 32768 is multiplying by its inverse, which is the other literal. -/
theorem div_rows (x : EReal) : Ideal.div x (Ideal.ofBits .f32 0x47000000#32) = x * Ideal.ofBits .f32 0x38000000#32 := by
  have a : Ideal.ofBits .f32 0x47000000#32 = ((32768 : ℝ) : EReal) := by
    simp [Ideal.ofBits, Ideal.ieee, -EReal.coe_mul]; norm_num
  have b : Ideal.ofBits .f32 0x38000000#32 = ((1 / 32768 : ℝ) : EReal) := by
    simp [Ideal.ofBits, Ideal.ieee, -EReal.coe_mul]; norm_num
  rw [a, b, Ideal.div_coe (by norm_num)]

/-! ### Bits as numbers -/

/-- The word comparison of two places, as the number that it is made into. -/
theorem cmpi_place (a b : Fin 1024) : IntOp.cmpi .eq (BitVec.ofNat 32 ↑a) (BitVec.ofNat 32 ↑b) = if a = b then 1#1 else 0#1 := by
  have ha := a.isLt
  have hb := b.isLt
  show BitVec.ofBool (BitVec.ofNat 32 ↑a == BitVec.ofNat 32 ↑b) = _
  by_cases h : a = b
  · subst h; simp
  · have : BitVec.ofNat 32 ↑a ≠ BitVec.ofNat 32 ↑b := fun q => h (Fin.ext (by
      have q := congrArg BitVec.toNat q
      rw [BitVec.toNat_ofNat, BitVec.toNat_ofNat] at q
      omega))
    rw [if_neg h, beq_eq_false_iff_ne.2 this]
    rfl

/-- A bit widened to a word and read signed, as a number. -/
theorem signed_bit (p : Prop) [Decidable p] :
    FloatOps.sitofp (F := Ideal) .f32 (BitVec.setWidth 32 (if p then 1#1 else 0#1)) = if p then (1 : EReal) else 0 := by
  split
  · show (((BitVec.setWidth 32 1#1).toInt : ℝ) : EReal) = 1
    rw [show (BitVec.setWidth 32 1#1).toInt = 1 from rfl]; simp
  · show (((BitVec.setWidth 32 0#1).toInt : ℝ) : EReal) = 0
    rw [show (BitVec.setWidth 32 0#1).toInt = 0 from rfl]; simp

/-- A bit read unsigned, as a number. -/
theorem unsigned_bit (p : Prop) [Decidable p] :
    FloatOps.uitofp (F := Ideal) .f32 (if p then 1#1 else 0#1) = if p then (1 : EReal) else 0 := by
  split
  · show (((1#1).toNat : ℝ) : EReal) = 1
    rw [show (1#1).toNat = 1 from rfl]; simp
  · show (((0#1).toNat : ℝ) : EReal) = 0
    rw [show (0#1).toNat = 0 from rfl]; simp

end Cert.Spec

end
-- ==== Proof.KernelBody.lean ====
/- What the kernel's body computes at one grid point, entry by entry, over the block `z` of 2048 rows and the codebook `E`. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelBody

open Idealize.ShloMosaic Idealize.ShloMosaic.TcCoe Idealize.SL.Sem
open Cert.KernelIdeal Cert.KernelIdeal.Gen Cert.Spec Cert.FirstMin

variable (E : FVec Ideal S1024x64 .f32) (z : FVec Ideal S2048x64 .f32)

/-- The entries' squared lengths. -/
theorem lengths (a : Fin 1) (e : Fin 1024) : k0_pay9 (F := Ideal) E (ix2 a e) = ∑ k, rowsOf E e k * rowsOf E e k := by
  pointwise [k0_pay9]
  rfl

/-- The chosen entry's word. -/
theorem place (r : Fin 2048) :
    k0_pay11 (F := Ideal) E z (k0_pay9 (F := Ideal) E) (ix1 r) = BitVec.ofNat 32 ↑(near (rowsOf z r) (rowsOf E)) := by
  pointwise [k0_pay11, k0_pay10]
  simp only [lengths, ofBits_top]
  exact fold_minsi (dist (rowsOf z r) (rowsOf E)) _ (fold_min _)

/-- The one-hot row. -/
theorem oneHot (r : Fin 2048) (e : Fin 1024) :
    k0_pay12 (F := Ideal) E z (k0_pay9 (F := Ideal) E) (ix2 r e) = hot (rowsOf z r) (rowsOf E) e := by
  pointwise [k0_pay12]
  rw [place, cmpi_place, signed_bit]
  rfl

/-- The chosen entries' words, as the block that is written. -/
theorem placeBlock (a b : Fin 1) (r : Fin 2048) :
    k0_pay13 (F := Ideal) E z (k0_pay9 (F := Ideal) E) (ix3 a b r) = BitVec.ofNat 32 ↑(near (rowsOf z r) (rowsOf E)) := by
  pointwise [k0_pay13]
  exact place E z r

/-- The row that stands for a row. -/
theorem codeBlock (r : Fin 2048) (k : Fin 64) :
    k0_pay14 (F := Ideal) E z (k0_pay9 (F := Ideal) E) (ix2 r k) = code (rowsOf z r) (rowsOf E) k := by
  pointwise [k0_pay14]
  simp only [oneHot]
  rfl

/-- The straight-through row. -/
theorem straight (r : Fin 2048) (k : Fin 64) :
    k0_pay1 (F := Ideal) (k0_pay10 z) (k0_pay15 E z (k0_pay9 (F := Ideal) E)) (ix2 r k)
      = z (ix2 r k) + (code (rowsOf z r) (rowsOf E) k - z (ix2 r k)) := by
  pointwise [k0_pay1, k0_pay15, k0_pay10]
  rw [codeBlock]

/-- One block's addition to the squared differences. -/
theorem sqErrStep (s : FVec Ideal S1x1 .f32) (a b : Fin 1) :
    k0_pay3 (F := Ideal) (k0_pay10 z) (k0_pay14 E z (k0_pay9 (F := Ideal) E)) s (ix2 a b) = s (ix2 a b) + sqErr (rowsOf z) (rowsOf E) := by
  pointwise [k0_pay3, k0_pay10]
  simp only [codeBlock]
  rfl

/-- One block's addition to the rows' sums. -/
theorem rowSumStep (s : FVec Ideal S1024x65 .f32) (e : Fin 1024) (k : Fin 65) (h : k.val < 64) :
    k0_pay2 (F := Ideal) (k0_pay10 z) (k0_pay12 E z (k0_pay9 (F := Ideal) E)) s (ix2 e k) = s (ix2 e k) + rowSum (rowsOf z) (rowsOf E) e ⟨k.val, h⟩ := by
  pointwise [k0_pay2, k0_pay10]
  simp only [oneHot, dif_pos h]
  rfl

/-- One block's addition to the counts, which stand in the last column. -/
theorem countStep (s : FVec Ideal S1024x65 .f32) (e : Fin 1024) :
    k0_pay2 (F := Ideal) (k0_pay10 z) (k0_pay12 E z (k0_pay9 (F := Ideal) E)) s (ix2 e 64) = s (ix2 e 64) + count (rowsOf z) (rowsOf E) e := by
  pointwise [k0_pay2, k0_pay10]
  simp only [oneHot]
  rfl

/-- The running sums start from zero. -/
theorem sums_zero (i : S1024x65.Idx) : k0_pay7 (F := Ideal) i = 0 := by
  pointwise [k0_pay7]

theorem err_zero (i : S1x1.Idx) : k0_pay8 (F := Ideal) i = 0 := by
  pointwise [k0_pay8]

/-- The moving-average step, from the counts and the rows' sums. -/
theorem average (v : FVec Ideal S1024x1 .f32) (q : FVec Ideal S1024x64 .f32) (e : Fin 1024) (k : Fin 64) :
    k0_pay4 (F := Ideal) v q (ix2 e k)
      = Ideal.div (Ideal.ofBits .f32 0x3F7D70A4#32 + q (ix2 e k) * Ideal.ofBits .f32 0x3C23D70A#32)
          (Ideal.ofBits .f32 0x3F7D70A4#32 + v (ix2 e 0) * Ideal.ofBits .f32 0x3C23D70A#32) := by
  pointwise [k0_pay4]

/-- The exponential of the entropy, from the counts. -/
theorem entropy (v : FVec Ideal S1024x1 .f32) (i : S1x1.Idx) :
    k0_pay5 (F := Ideal) v i
      = Ideal.exp (-∑ e : Fin 1024, v (ix2 e 0) * Ideal.ofBits .f32 0x38000000#32
          * Ideal.log (v (ix2 e 0) * Ideal.ofBits .f32 0x38000000#32 + Ideal.ofBits .f32 0x2EDBE6FF#32)) := by
  idx_vars i
  pointwise [k0_pay5]
  simp

/-- The mean, from the sum. -/
theorem mean (v : FVec Ideal S1x1 .f32) (i : S1x1.Idx) : k0_pay6 (F := Ideal) v i = v i * Ideal.ofBits .f32 0x35000000#32 := by
  idx_vars i
  pointwise [k0_pay6]

end Cert.KernelBody

end
-- ==== Proof.KernelState.lean ====
/- What the kernel's grid points leave behind them, point by point: the blocks written at each point and the three buffers
   carried from point to point, as the body's functions of the rows' block and the codebook. -/
module

public import proofs.«01_k».proof.Proof.KernelBody
public import proofs.«01_k».proof.Proof.Gen.KernelIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelState

open Idealize.ShloMosaic Idealize.ShloMosaic.TcCoe Idealize.SL.Sem
open Cert.KernelIdeal Cert.KernelIdeal.Gen Cert.KernelBody Cert.Spec

variable (m : (ℓ : Loc nD τ sig) → Buf (Elt Ideal) ℓ) (c : Dev nD)

/-- The input array on a device. -/
def input : FVec Ideal S32x64x32x32 .f32 := m ((c.tc : Thread nD τ).loc main_arg0)

/-- The codebook on a device. -/
def book : FVec Ideal S1024x64 .f32 := m ((c.tc : Thread nD τ).loc main_arg3)

/-- The input as rows. -/
def inRows : FVec Ideal S32768x64 .f32 := shapeCast S32768x64 (input m c) shapeCasts_S32x64x32x32_S32768x64

/-- The rows' block at a grid point. -/
abbrev zblk (t : Fin cfg0.N) : FVec Ideal S2048x64 .f32 := iblk m c 0 t

/-- Where each window's block stands at each grid point. -/
theorem places : ∀ t : Fin cfg0.N, win0_0.index t = ![t.val, 0] ∧ win0_1.index t = ![0, 0] ∧ win0_2.index t = ![t.val, 0]
    ∧ win0_3.index t = ![t.val, 0] ∧ win0_4.index t = ![t.val, 0, 0] :=
  (by decide +kernel : ∀ t : Fin grid0.N, _)

/-- The codebook's block is the codebook at every point. -/
theorem book_blk (t : Fin cfg0.N) : iblk m c 1 t = book m c := by
  have h := places t
  funext y
  idx_vars y
  unfold book
  blk_ext [iblk, V, h]

/-- Row `r` of the block at point `t` is row `2048 t + r` of the input. -/
theorem zblk_apply (t : Fin cfg0.N) (r : Fin 2048) (k : Fin 64) (h : t.val * 2048 + r.val < 32768) :
    zblk m c t (ix2 r k) = inRows m c (ix2 ⟨t.val * 2048 + r.val, h⟩ k) := by
  have p := places t
  have e : V m c main_v0 = inRows m c := by
    entry_read
    rfl
  show V m c main_v0 (((cfg0.win 0).blk t).view.emb (ix2 r k)) = _
  rw [e]
  blk_ext [p]

/-- The entries' lengths, computed at the first point, are held at every point. -/
theorem lengths_held (t : Fin cfg0.N) : (outsAt0 m c t.val t.isLt).2.2.2.2.2.2.2.2 = k0_pay9 (F := Ideal) (book m c) := by
  obtain ⟨n, hn⟩ := t
  induction n with
  | zero =>
    rw [outsAt0_A m c ⟨0, hn⟩ rfl (by show ¬0 % 16 = 15; decide)]
    dsimp only
    frame_out
    rw [book_blk]
  | succ n ih =>
    have h0 : ¬(n + 1) % 16 = 0 := by have : n + 1 < 16 := hn; omega
    by_cases h1 : (n + 1) % 16 = 15
    · rw [outsAt0_C m c ⟨n + 1, hn⟩ h0 h1]
      exact ih (Nat.lt_of_succ_lt hn)
    · rw [outsAt0_B m c ⟨n + 1, hn⟩ h0 h1]
      exact ih (Nat.lt_of_succ_lt hn)

/-- The blocks written at every point: the one-hot rows, the straight-through rows, the chosen entries' words. -/
theorem written (t : Fin cfg0.N) :
    (outsAt0 m c t.val t.isLt).1 = k0_pay12 (F := Ideal) (book m c) (zblk m c t) (k0_pay9 (F := Ideal) (book m c))
    ∧ (outsAt0 m c t.val t.isLt).2.1
        = k0_pay1 (k0_pay10 (zblk m c t)) (k0_pay15 (F := Ideal) (book m c) (zblk m c t) (k0_pay9 (F := Ideal) (book m c)))
    ∧ (outsAt0 m c t.val t.isLt).2.2.1 = k0_pay13 (F := Ideal) (book m c) (zblk m c t) (k0_pay9 (F := Ideal) (book m c)) := by
  by_cases h0 : t.val % 16 = 0
  · rw [outsAt0_A m c t h0 (by omega)]
    dsimp only
    refine ⟨?_, ?_, ?_⟩ <;> frame_out <;> rw [book_blk]
  · have e := lengths_held m c ⟨t.val - 1, Nat.lt_of_le_of_lt (Nat.sub_le _ _) t.isLt⟩
    dsimp only at e
    by_cases h1 : t.val % 16 = 15
    · rw [outsAt0_C m c t h0 h1]
      dsimp only
      refine ⟨?_, ?_, ?_⟩ <;> frame_out <;> rw [read_unread_whole, book_blk, e]
    · rw [outsAt0_B m c t h0 h1]
      dsimp only
      refine ⟨?_, ?_, ?_⟩ <;> frame_out <;> rw [read_unread_whole, book_blk, e]

/-- The first point starts the two running sums from zero. -/
theorem sums_first (t : Fin cfg0.N) (h0 : t.val % 16 = 0) :
    (outsAt0 m c t.val t.isLt).2.2.2.2.2.2.1
      = k0_pay2 (k0_pay10 (zblk m c t)) (k0_pay12 (F := Ideal) (book m c) (zblk m c t) (k0_pay9 (F := Ideal) (book m c))) (k0_pay7 (F := Ideal))
    ∧ (outsAt0 m c t.val t.isLt).2.2.2.2.2.2.2.1
      = k0_pay3 (k0_pay10 (zblk m c t)) (k0_pay14 (F := Ideal) (book m c) (zblk m c t) (k0_pay9 (F := Ideal) (book m c))) (k0_pay8 (F := Ideal)) := by
  rw [outsAt0_A m c t h0 (by omega)]
  dsimp only
  refine ⟨?_, ?_⟩ <;> frame_out <;> rw [book_blk]

/-- Every later point adds its block to what the point before left. -/
theorem sums_next (t : Fin cfg0.N) (h0 : ¬t.val % 16 = 0) :
    (outsAt0 m c t.val t.isLt).2.2.2.2.2.2.1
      = k0_pay2 (k0_pay10 (zblk m c t)) (k0_pay12 (F := Ideal) (book m c) (zblk m c t) (k0_pay9 (F := Ideal) (book m c)))
          (outsAt0 m c (t.val - 1) (Nat.lt_of_le_of_lt (Nat.sub_le _ _) t.isLt)).2.2.2.2.2.2.1
    ∧ (outsAt0 m c t.val t.isLt).2.2.2.2.2.2.2.1
      = k0_pay3 (k0_pay10 (zblk m c t)) (k0_pay14 (F := Ideal) (book m c) (zblk m c t) (k0_pay9 (F := Ideal) (book m c)))
          (outsAt0 m c (t.val - 1) (Nat.lt_of_le_of_lt (Nat.sub_le _ _) t.isLt)).2.2.2.2.2.2.2.1 := by
  have e := lengths_held m c ⟨t.val - 1, Nat.lt_of_le_of_lt (Nat.sub_le _ _) t.isLt⟩
  dsimp only at e
  by_cases h1 : t.val % 16 = 15
  · rw [outsAt0_C m c t h0 h1]
    dsimp only
    refine ⟨?_, ?_⟩ <;> frame_out <;> rw [read_unread_whole, read_unread_whole, book_blk, e]
  · rw [outsAt0_B m c t h0 h1]
    dsimp only
    refine ⟨?_, ?_⟩ <;> frame_out <;> rw [read_unread_whole, read_unread_whole, book_blk, e]

/-- The last point's three results, from the two running sums as it leaves them. -/
theorem finals (t : Fin cfg0.N) (h1 : t.val % 16 = 15) :
    (outsAt0 m c t.val t.isLt).2.2.2.1
      = k0_pay4 (View.ld (outsAt0 m c t.val t.isLt).2.2.2.2.2.2.1 (Rect.unit ![0, 64] ![1024, 1] inb_S1024x65_S1024x1_0_64))
          (View.ld (outsAt0 m c t.val t.isLt).2.2.2.2.2.2.1 (Rect.unit ![0, 0] ![1024, 64] inb_S1024x65_S1024x64_0_0))
    ∧ (outsAt0 m c t.val t.isLt).2.2.2.2.1 = k0_pay6 (outsAt0 m c t.val t.isLt).2.2.2.2.2.2.2.1
    ∧ (outsAt0 m c t.val t.isLt).2.2.2.2.2.1
      = k0_pay5 (View.ld (outsAt0 m c t.val t.isLt).2.2.2.2.2.2.1 (Rect.unit ![0, 64] ![1024, 1] inb_S1024x65_S1024x1_0_64)) := by
  have h0 : ¬t.val % 16 = 0 := by omega
  rw [outsAt0_C m c t h0 h1]
  dsimp only
  refine ⟨?_, ?_, ?_⟩ <;> frame_out
  · rw [View.readCov_fill _ _ _ _ _ (by decide), View.readCov_fill _ _ _ _ _ (by decide)]
  · rw [View.readCov_fill _ _ _ _ _ (by decide)]

end Cert.KernelState

end
-- ==== Proof.KernelSums.lean ====
/- The kernel's running sums after the last grid point: sums over all the rows. -/
module

public import proofs.«01_k».proof.Proof.KernelState
public import Idealize.ShloMosaic.Lib.Pointwise

@[expose] public section

set_option maxRecDepth 16384

noncomputable section

namespace Cert.KernelSums

open Idealize.ShloMosaic Idealize.ShloMosaic.TcCoe Idealize.SL.Sem
open Cert.KernelIdeal Cert.KernelIdeal.Gen Cert.KernelBody Cert.KernelState Cert.Spec

variable (m : (ℓ : Loc nD τ sig) → Buf (Elt Ideal) ℓ) (c : Dev nD)

/-- The grid has 16 points. -/
theorem points : cfg0.N = 16 := N_0

/-- A block's row is the input's row. -/
theorem blockRow (t : Fin cfg0.N) (r : Fin 2048) (h : t.val * 2048 + r.val < 32768) :
    rowsOf (zblk m c t) r = rowsOf (inRows m c) ⟨t.val * 2048 + r.val, h⟩ :=
  funext fun k => zblk_apply m c t r k h

/-- A sum over the points and their blocks' rows is a sum over the input's rows. -/
theorem all_rows (f : (Fin 64 → EReal) → EReal) :
    ∑ t : Fin cfg0.N, ∑ r : Fin 2048, f (rowsOf (zblk m c t) r) = ∑ n : Fin 32768, f (rowsOf (inRows m c) n) := by
  rw [Fin.sum_univ_tiles cfg0.N 2048 (by rw [points]) (fun n => f (rowsOf (inRows m c) n))]
  exact Finset.sum_congr rfl fun t _ => Finset.sum_congr rfl fun r _ => by rw [blockRow]

/-- The rows' sums at the last point. -/
theorem rowSum_last (t : Fin cfg0.N) (ht : t.val + 1 = cfg0.N) (e : Fin 1024) (k : Fin 65) (hk : k.val < 64) :
    (outsAt0 m c t.val t.isLt).2.2.2.2.2.2.1 (ix2 e k) = rowSum (rowsOf (inRows m c)) (rowsOf (book m c)) e ⟨k.val, hk⟩ := by
  rw [Pipeline.eq_sum_fin_of_reset_step_apply_last
    (fun n h (_ : Unit) => (outsAt0 m c n h).2.2.2.2.2.2.1 (ix2 e k)) 16 (fun _ => 0)
    (fun t _ => rowSum (rowsOf (zblk m c t)) (rowsOf (book m c)) e ⟨k.val, hk⟩)
    (fun t h _ => by rw [(sums_first m c t h).1, rowSumStep _ _ _ e k hk, sums_zero])
    (fun t h _ => by rw [(sums_next m c t h).1, rowSumStep _ _ _ e k hk]) points.le t ht (), zero_add]
  exact all_rows m c fun z => hot z (rowsOf (book m c)) e * z ⟨k.val, hk⟩

/-- The counts at the last point. -/
theorem count_last (t : Fin cfg0.N) (ht : t.val + 1 = cfg0.N) (e : Fin 1024) :
    (outsAt0 m c t.val t.isLt).2.2.2.2.2.2.1 (ix2 e 64) = count (rowsOf (inRows m c)) (rowsOf (book m c)) e := by
  rw [Pipeline.eq_sum_fin_of_reset_step_apply_last
    (fun n h (_ : Unit) => (outsAt0 m c n h).2.2.2.2.2.2.1 (ix2 e 64)) 16 (fun _ => 0)
    (fun t _ => count (rowsOf (zblk m c t)) (rowsOf (book m c)) e)
    (fun t h _ => by rw [(sums_first m c t h).1, countStep, sums_zero])
    (fun t h _ => by rw [(sums_next m c t h).1, countStep]) points.le t ht (), zero_add]
  exact all_rows m c fun z => hot z (rowsOf (book m c)) e

/-- The squared differences at the last point. -/
theorem sqErr_last (t : Fin cfg0.N) (ht : t.val + 1 = cfg0.N) (a b : Fin 1) :
    (outsAt0 m c t.val t.isLt).2.2.2.2.2.2.2.1 (ix2 a b) = sqErr (rowsOf (inRows m c)) (rowsOf (book m c)) := by
  rw [Pipeline.eq_sum_fin_of_reset_step_apply_last
    (fun n h (_ : Unit) => (outsAt0 m c n h).2.2.2.2.2.2.2.1 (ix2 a b)) 16 (fun _ => 0)
    (fun t _ => sqErr (rowsOf (zblk m c t)) (rowsOf (book m c)))
    (fun t h _ => by rw [(sums_first m c t h).2, sqErrStep, err_zero])
    (fun t h _ => by rw [(sums_next m c t h).2, sqErrStep]) points.le t ht (), zero_add]
  exact all_rows m c fun z => ∑ k, (code z (rowsOf (book m c)) k - z k) * (code z (rowsOf (book m c)) k - z k)

end Cert.KernelSums

end
-- ==== Proof.KernelArrays.lean ====
/- The kernel's result arrays after its run. -/
module

public import proofs.«01_k».proof.Proof.KernelSums
public import Idealize.ShloMosaic.Lib.Pointwise

@[expose] public section

set_option maxRecDepth 16384

noncomputable section

namespace Cert.KernelArrays

open Idealize.ShloMosaic Idealize.ShloMosaic.TcCoe Idealize.SL.Sem
open Cert.KernelIdeal Cert.KernelIdeal.Gen Cert.KernelBody Cert.KernelState Cert.KernelSums Cert.Spec

variable (m : (ℓ : Loc nD τ sig) → Buf (Elt Ideal) ℓ) (c : Dev nD)

/-- The point `15` is the last one. -/
theorem last : t0_15.val + 1 = cfg0.N := points.symm

/-- A block's row is a row. -/
theorem row_lt (t : Fin cfg0.N) (r : Fin 2048) : t.val * 2048 + r.val < 32768 := by
  have h : t.val < 16 := points ▸ t.isLt
  omega

theorem word_lt (y : S16x1x2048.Idx) : (y 0).val * 2048 + (y 2).val < 32768 := by
  have h0 : (y 0).val < 16 := (y 0).isLt
  have h2 : (y 2).val < 2048 := (y 2).isLt
  omega

/-- The last column of the running sums. -/
theorem ld_counts (S : Vec Ideal S1024x65 .f32) (e : Fin 1024) :
    (View.ld S (Rect.unit ![0, 64] ![1024, 1] inb_S1024x65_S1024x1_0_64) : Vec Ideal S1024x1 .f32) (ix2 e 0) = S (ix2 e 64) := by
  pointwise

/-- The columns before it. -/
theorem ld_sums (S : Vec Ideal S1024x65 .f32) (e : Fin 1024) (k : Fin 64) :
    (View.ld S (Rect.unit ![0, 0] ![1024, 64] inb_S1024x65_S1024x64_0_0) : Vec Ideal S1024x64 .f32) (ix2 e k) = S (ix2 e ⟨k.val, by omega⟩) := by
  pointwise

/-- The one-hot rows. -/
theorem arr_hot : (dats m 0 c).arrAt 2 cfg0.N = hotArr (inRows m c) (book m c) := by
  refine (dats m 0 c).arrAt_eq_of_covers 2 _ (by decide +kernel) fun t _ y => ?_
  have p := places t
  blk_simp
  rw [after0_2, (written m c t).1]
  idx_vars y
  have h : t.val * 2048 + y0.val < 32768 := row_lt t y0
  have e : ((View.whole main_v1_0).slice (win0_2.rect t)).emb (ix2 y0 y1) = ix2 ⟨t.val * 2048 + y0.val, h⟩ y1 := by blk_ext [p]
  rw [oneHot, e, blockRow m c t y0 h]
  rfl

/-- The straight-through rows. -/
theorem arr_straight : (dats m 0 c).arrAt 3 cfg0.N = straightArr (inRows m c) (book m c) := by
  refine (dats m 0 c).arrAt_eq_of_covers 3 _ (by decide +kernel) fun t _ y => ?_
  have p := places t
  blk_simp
  rw [after0_3, (written m c t).2.1]
  idx_vars y
  have h : t.val * 2048 + y0.val < 32768 := row_lt t y0
  have e : ((View.whole main_v1_1).slice (win0_3.rect t)).emb (ix2 y0 y1) = ix2 ⟨t.val * 2048 + y0.val, h⟩ y1 := by blk_ext [p]
  rw [straight, e, blockRow m c t y0 h, zblk_apply m c t y0 y1 h]
  rfl

/-- The chosen entries' words, block by block. -/
def nearBlocks : Vec Ideal S16x1x2048 .i32 := fun y => nearArr (inRows m c) (book m c) (ix1 ⟨(y 0).val * 2048 + (y 2).val, word_lt y⟩)

/-- A word of a block. -/
theorem nearBlocks_apply (t : Fin cfg0.N) (a : Fin 16) (ha : a.val = t.val) (b : Fin 1) (r : Fin 2048) :
    nearBlocks m c (ix3 a b r) = BitVec.ofNat 32 ↑(near (rowsOf (zblk m c t) r) (rowsOf (book m c))) := by
  rw [blockRow m c t r (row_lt t r)]
  simp only [← ha]
  rfl

theorem arr_near : (dats m 0 c).arrAt 4 cfg0.N = nearBlocks m c := by
  refine (dats m 0 c).arrAt_eq_of_covers 4 _ (by decide +kernel) fun t _ y => ?_
  have p := places t
  blk_simp
  rw [after0_4, (written m c t).2.2]
  idx_vars y
  have e : ((View.whole main_v1_2).slice (win0_4.rect t)).emb (ix3 y0 y1 y2) = ix3 ⟨t.val, points ▸ t.isLt⟩ y1 y2 := by blk_ext [p]
  rw [placeBlock, e]
  exact (nearBlocks_apply m c t ⟨t.val, points ▸ t.isLt⟩ rfl y1 y2).symm

/-- The new codebook. -/
theorem arr_new : (dats m 0 c).arrAt 5 cfg0.N = newArr (inRows m c) (book m c) := by
  refine (dats m 0 c).arrAt_eq_of_after_last 5 t0_15 (by decide +kernel) _ fun j => ?_
  blk_simp
  rw [after0_5, (finals m c t0_15 rfl).1]
  idx_vars j
  rw [average, ld_counts, ld_sums, count_last m c t0_15 last, rowSum_last m c t0_15 last _ _ j1.isLt]
  rfl

/-- The mean squared difference. -/
theorem arr_mean : (dats m 0 c).arrAt 6 cfg0.N = fun _ => meanErr (rowsOf (inRows m c)) (rowsOf (book m c)) := by
  refine (dats m 0 c).arrAt_eq_of_after_last 6 t0_15 (by decide +kernel) _ fun j => ?_
  blk_simp
  rw [after0_6, (finals m c t0_15 rfl).2.1]
  idx_vars j
  rw [mean, sqErr_last m c t0_15 last]
  rfl

/-- The perplexity. -/
theorem arr_perp : (dats m 0 c).arrAt 7 cfg0.N = fun _ => perp (rowsOf (inRows m c)) (rowsOf (book m c)) := by
  refine (dats m 0 c).arrAt_eq_of_after_last 7 t0_15 (by decide +kernel) _ fun j => ?_
  blk_simp
  rw [after0_7, (finals m c t0_15 rfl).2.2]
  idx_vars j
  rw [entropy]
  refine congrArg (fun s => Ideal.exp (-s)) (Finset.sum_congr rfl fun e _ => ?_)
  rw [ld_counts, count_last m c t0_15 last]
  rfl

end Cert.KernelArrays

end
-- ==== Proof.KernelRun.lean ====
/- The kernel program's run: its seven results. -/
module

public import proofs.«01_k».proof.Proof.KernelArrays
public import Idealize.ShloMosaic.Lib.Pointwise
public import Idealize.ShloMosaic.Lib.StableHlo.Run

@[expose] public section

set_option maxRecDepth 16384

noncomputable section

namespace Cert.KernelRun

open Idealize.ShloMosaic Idealize.ShloMosaic.TcCoe Idealize.SL.Sem
open Cert.KernelIdeal Cert.KernelIdeal.Gen Cert.KernelBody Cert.KernelState Cert.KernelSums Cert.KernelArrays Cert.Spec

variable (m : (ℓ : Loc nD τ sig) → Buf (Elt Ideal) ℓ) (ρ : Dev nD → PrngReg) (c : Dev nD)

/-- The last host operations, from any contents: reshapes of the arrays, and the mean times one. -/
theorem tail {F : FTy → Type} [FloatOps F] (W : Valuation τ sig (Elt F)) :
    StableHlo.after hostOps1 W (Proc.devRef .tc main_v2) = shapeCast S_ (W (Proc.devRef .tc main_v1_4)) shapeCasts_S1x1_S_
    ∧ StableHlo.after hostOps1 W (Proc.devRef .tc main_v3)
        = mulf (constant S_ .f32 0x3F800000#32) (shapeCast S_ (W (Proc.devRef .tc main_v1_4)) shapeCasts_S1x1_S_)
    ∧ StableHlo.after hostOps1 W (Proc.devRef .tc main_v4) = shapeCast S32x64x32x32 (W (Proc.devRef .tc main_v1_1)) shapeCasts_S32768x64_S32x64x32x32
    ∧ StableHlo.after hostOps1 W (Proc.devRef .tc main_v5) = shapeCast S_ (W (Proc.devRef .tc main_v1_5)) shapeCasts_S1x1_S_
    ∧ StableHlo.after hostOps1 W (Proc.devRef .tc main_v7)
        = broadcastInDim S32768x1 ![0] bcast_S32768_S32768x1_0 (shapeCast S32768 (W (Proc.devRef .tc main_v1_2)) shapeCasts_S16x1x2048_S32768) := by
  refine ⟨?_, ?_, ?_, ?_, ?_⟩ <;> after_results_simp <;> rfl

/-- The buffers' contents when the last host operations start: the windows' arrays after the run. -/
def atExit : Valuation τ sig (Elt Ideal) :=
  Pipeline.withArrays (cfgs 0).spec c (V0 m c) fun w => (dats m 0 c).arrAt w (cfgs 0).N

theorem exit_arr (w : Fin 8) : atExit m c (Proc.devRef .tc (Pipeline.arrRef spec0 w)) = (dats m 0 c).arrAt w cfg0.N :=
  Pipeline.withArrays_arr spec0 (by decide) c _ _ w

theorem tail_eq (b : Ref sig .tc) : Pipeline.afterTail₀ cfgs (dats m) 0 (V0 m) [hostOps1] c b = StableHlo.after hostOps1 (atExit m c) (Proc.devRef .tc b) :=
  rfl

theorem exit_mean : atExit m c (Proc.devRef .tc main_v1_4) = fun _ => meanErr (rowsOf (inRows m c)) (rowsOf (book m c)) :=
  (exit_arr m c 6).trans (arr_mean m c)

theorem exit_straight : atExit m c (Proc.devRef .tc main_v1_1) = straightArr (inRows m c) (book m c) :=
  (exit_arr m c 3).trans (arr_straight m c)

theorem exit_perp : atExit m c (Proc.devRef .tc main_v1_5) = fun _ => perp (rowsOf (inRows m c)) (rowsOf (book m c)) :=
  (exit_arr m c 7).trans (arr_perp m c)

theorem exit_near : atExit m c (Proc.devRef .tc main_v1_2) = nearBlocks m c := (exit_arr m c 4).trans (arr_near m c)

/-- The blocks of words laid one after another. -/
theorem near_flat : shapeCast S32768 (nearBlocks m c) shapeCasts_S16x1x2048_S32768 = nearArr (inRows m c) (book m c) := by
  funext j
  idx_vars j
  pointwise
  refine congrArg (nearArr (inRows m c) (book m c)) (congrArg ix1 (Fin.ext ?_))
  show j0.val / 2048 * 2048 + j0.val % 2048 = j0.val
  omega

/-- The run: the seven results in terms of the input's rows and the codebook, and the arguments as they were. -/
theorem run : θ_run defs (onTc (τ := τ) (main (F := Ideal))) ⟨m, fun _ => 0, ρ⟩ fun r => ∀ c : Dev nD,
      r.2.mem ((c.tc : Thread nD τ).loc main_v2) = (fun _ => meanErr (rowsOf (inRows m c)) (rowsOf (book m c)))
      ∧ r.2.mem ((c.tc : Thread nD τ).loc main_v3)
          = mulf (F := Ideal) (constant S_ .f32 0x3F800000#32) (fun _ => meanErr (rowsOf (inRows m c)) (rowsOf (book m c)))
      ∧ r.2.mem ((c.tc : Thread nD τ).loc main_v4) = shapeCast S32x64x32x32 (straightArr (inRows m c) (book m c)) shapeCasts_S32768x64_S32x64x32x32
      ∧ r.2.mem ((c.tc : Thread nD τ).loc main_v5) = (fun _ => perp (rowsOf (inRows m c)) (rowsOf (book m c)))
      ∧ r.2.mem ((c.tc : Thread nD τ).loc main_v1_0) = hotArr (inRows m c) (book m c)
      ∧ r.2.mem ((c.tc : Thread nD τ).loc main_v7) = broadcastInDim S32768x1 ![0] bcast_S32768_S32768x1_0 (nearArr (inRows m c) (book m c))
      ∧ r.2.mem ((c.tc : Thread nD τ).loc main_v1_3) = newArr (inRows m c) (book m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (unchanged m ρ))
  have rest : ∀ b : Ref sig .tc, b ∈ Pipeline.restRefs sig spec0 →
      r.2.mem ((c.tc : Thread nD τ).loc b) = StableHlo.after hostOps1 (atExit m c) (Proc.devRef .tc b) := fun b hb => (h.1 c).2 b hb
  obtain ⟨t2, t3, t4, t5, t7⟩ := tail (atExit m c)
  rw [exit_mean] at t2 t3
  rw [exit_straight] at t4
  rw [exit_perp] at t5
  rw [exit_near, near_flat] at t7
  exact ⟨(rest main_v2 (Pipeline.mem_restRefs_of main_v2 (by decide) (by decide))).trans t2,
    (rest main_v3 (Pipeline.mem_restRefs_of main_v3 (by decide) (by decide))).trans t3,
    (rest main_v4 (Pipeline.mem_restRefs_of main_v4 (by decide) (by decide))).trans t4,
    (rest main_v5 (Pipeline.mem_restRefs_of main_v5 (by decide) (by decide))).trans t5,
    ((h.1 c).1 2).trans (arr_hot m c),
    (rest main_v7 (Pipeline.mem_restRefs_of main_v7 (by decide) (by decide))).trans t7,
    ((h.1 c).1 5).trans (arr_new m c), h.2 c⟩

end Cert.KernelRun

end
-- ==== Proof.RefRun.lean ====
/- The reference program read as a list of host operations, and what its run leaves in the result buffers,
   told through one function per stage of the mathematics. -/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The input's rows: the four-axis array read as 32768 rows of 64 numbers. -/
def rows (x : FVec F S32x64x32x32 .f32) : FVec F S32768x64 .f32 := shapeCast S32768x64 x shapeCasts_S32x64x32x32_S32768x64

/-- The squared distance of each row to each codebook entry, expanded as |z|² + |e|² − 2 z·e. -/
def dist (z : FVec F S32768x64 .f32) (E : FVec F S1024x64 .f32) : FVec F S32768x1024 .f32 :=
  subf (addf
      (broadcastInDim S32768x1024 ![0, 1] bcast_S32768x1_S32768x1024_0_1 (broadcastInDim S32768x1 ![0] bcast_S32768_S32768x1_0
        (Host.reduceAdd (mulf z z) (constant S_ .f32 0x00000000#32) reducesTo_S32768x64_S32768_d1 h_S_)))
      (broadcastInDim S32768x1024 ![0, 1] bcast_S1x1024_S32768x1024_0_1 (broadcastInDim S1x1024 ![1] bcast_S1024_S1x1024_1
        (Host.reduceAdd (mulf E E) (constant S_ .f32 0x00000000#32) reducesTo_S1024x64_S1024_d1 h_S_))))
    (mulf (broadcastInDim S32768x1024 ![] bcast_S_S32768x1024 (constant S_ .f32 0x40000000#32))
      (Host.dotGeneral dot_S32768x64_S64x1024_S32768x1024_1_0_0_1_n_n none z (transpose S64x1024 [1, 0] E transposes_S1024x64_S64x1024_1_0)))

/-- The index word of the nearest entry, per row. -/
def nearest (d : FVec F S32768x1024 .f32) : IVec S32768 32 :=
  fun j => (Host.argReduce reducer_argmin_f32_i32 d (iotaInDim S32768x1024 32 1) (constant S_ .f32 0x7F800000#32) (constantI S_ 32 0#32)
    reducesTo_S32768x1024_S32768_d1 h_S_ j).2

/-- The one-hot rows of the index words. -/
def oneHot (w : IVec S32768 32) : FVec F S32768x1024 .f32 :=
  uitofp .f32 (cmpi .eq
    (broadcastInDim S32768x1024 ![0, 1] bcast_S32768x1_S32768x1024_0_1 (broadcastInDim S32768x1 ![0] bcast_S32768_S32768x1_0 w))
    (broadcastInDim S32768x1024 ![0, 1] bcast_S1x1024_S32768x1024_0_1 (iotaInDim S1x1024 32 1)))

/-- The quantised rows, as the matrix product of the one-hot rows with the codebook, in the input's four axes. -/
def quantised (h : FVec F S32768x1024 .f32) (E : FVec F S1024x64 .f32) : FVec F S32x64x32x32 .f32 :=
  shapeCast S32x64x32x32 (Host.dotGeneral dot_S32768x1024_S1024x64_S32768x64_1_0_0_1_n_n none h E) shapeCasts_S32768x64_S32x64x32x32

/-- How many rows chose each entry. -/
def counts (h : FVec F S32768x1024 .f32) : FVec F S1024 .f32 :=
  Host.reduceAdd h (constant S_ .f32 0x00000000#32) reducesTo_S32768x1024_S1024_d0 h_S_

/-- The mean squared difference of the quantised array and the input. -/
def meanSquare (q x : FVec F S32x64x32x32 .f32) : FVec F S_ .f32 :=
  Host.divf (Host.reduceAdd (mulf (subf q x) (subf q x)) (constant S_ .f32 0x00000000#32) reducesTo_S32x64x32x32_S_d0_1_2_3 h_S_)
    (constant S_ .f32 0x4A000000#32)

/-- The share of the rows that chose each entry. -/
def shares (n : FVec F S1024 .f32) : FVec F S1024 .f32 := Host.divf n (broadcastInDim S1024 ![] bcast_S_S1024 (constant S_ .f32 0x47000000#32))

/-- The exponential of the shares' entropy. -/
def perplexity (p : FVec F S1024 .f32) : FVec F S_ .f32 :=
  Host.exp (Host.negf (Host.reduceAdd (mulf p (Host.log (addf p (broadcastInDim S1024 ![] bcast_S_S1024 (constant S_ .f32 0x2EDBE6FF#32)))))
    (constant S_ .f32 0x00000000#32) reducesTo_S1024_S_d0 h_S_))

/-- The codebook after one moving-average step: the averaged row sums over the averaged counts. -/
def newCodes (n : FVec F S1024 .f32) (w : IVec S32768 32) (z : FVec F S32768x64 .f32) : FVec F S1024x64 .f32 :=
  Host.divf
    (addf
      (mulf (broadcastInDim S1024x64 ![] bcast_S_S1024x64 (constant S_ .f32 0x3F7D70A4#32))
        (broadcastInDim S1024x64 ![] bcast_S_S1024x64 (constant S_ .f32 0x3F800000#32)))
      (mulf
        (Host.scatterAdd scatter_S1024x64_S32768x1_S32768x64_1_0_0_1 (broadcastInDim S1024x64 ![] bcast_S_S1024x64 (constant S_ .f32 0x00000000#32))
          (broadcastInDim S32768x1 ![0] bcast_S32768_S32768x1_0 w) z)
        (broadcastInDim S1024x64 ![] bcast_S_S1024x64 (constant S_ .f32 0x3C23D70A#32))))
    (broadcastInDim S1024x64 ![0, 1] bcast_S1024x1_S1024x64_0_1 (broadcastInDim S1024x1 ![0] bcast_S1024_S1024x1_0
      (shapeCast S1024
        (addf
          (mulf (broadcastInDim S1x1024 ![] bcast_S_S1x1024 (constant S_ .f32 0x3F800000#32))
            (broadcastInDim S1x1024 ![] bcast_S_S1x1024 (constant S_ .f32 0x3F7D70A4#32)))
          (mulf (broadcastInDim S1x1024 ![1] bcast_S1024_S1x1024_1 n)
            (broadcastInDim S1x1024 ![] bcast_S_S1x1024 (constant S_ .f32 0x3C23D70A#32))))
        shapeCasts_S1x1024_S1024)))

/-- The nearest entry's index words, from the two arguments that the computation reads. -/
def idx (x : FVec F S32x64x32x32 .f32) (E : FVec F S1024x64 .f32) : IVec S32768 32 := nearest (dist (rows x) E)
/-- The one-hot rows, from the arguments. -/
def hot (x : FVec F S32x64x32x32 .f32) (E : FVec F S1024x64 .f32) : FVec F S32768x1024 .f32 := oneHot (idx x E)
/-- The quantised array, from the arguments. -/
def quant (x : FVec F S32x64x32x32 .f32) (E : FVec F S1024x64 .f32) : FVec F S32x64x32x32 .f32 := quantised (hot x E) E

/-- @main's 91 operations, in order (a called function's operations stand in its call's place, spelt `TRef.…`). -/
abbrev ops : List (HloOp τ sig (Elt F)) :=
  [ reshape main_arg0 main_v0 (rfl : (.f32 : EltTy) = .f32) shapeCasts_S32x64x32x32_S32768x64,
    binary main_v0 main_v0 main_v1 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v1 main_cst main_v2 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v2 main_v3 (broadcastInDim S32768x1 ![0] bcast_S32768_S32768x1_0 : (⟨S32768, .f32⟩ : BufTy).Contents (Elt F) → (⟨S32768x1, .f32⟩ : BufTy).Contents (Elt F)),
    binary main_arg3 main_arg3 main_v4 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v5 main_v6 (broadcastInDim S1x1024 ![1] bcast_S1024_S1x1024_1 : (⟨S1024, .f32⟩ : BufTy).Contents (Elt F) → (⟨S1x1024, .f32⟩ : BufTy).Contents (Elt F)),
    unary main_v3 main_v7 (broadcastInDim S32768x1024 ![0, 1] bcast_S32768x1_S32768x1024_0_1 : (⟨S32768x1, .f32⟩ : BufTy).Contents (Elt F) → (⟨S32768x1024, .f32⟩ : BufTy).Contents (Elt F)),
    unary main_v6 main_v8 (broadcastInDim S32768x1024 ![0, 1] bcast_S1x1024_S32768x1024_0_1 : (⟨S1x1024, .f32⟩ : BufTy).Contents (Elt F) → (⟨S32768x1024, .f32⟩ : BufTy).Contents (Elt F)),
    binary main_v7 main_v8 main_v9 (addf : (⟨S32768x1024, .f32⟩ : BufTy).Contents (Elt F) → (⟨S32768x1024, .f32⟩ : BufTy).Contents (Elt F) → (⟨S32768x1024, .f32⟩ : BufTy).Contents (Elt F)),
    unary main_arg3 main_v10 ((transpose S64x1024 [1, 0] · transposes_S1024x64_S64x1024_1_0) : (⟨S1024x64, .f32⟩ : BufTy).Contents (Elt F) → (⟨S64x1024, .f32⟩ : BufTy).Contents (Elt F)),
    binary main_v0 main_v10 main_v11 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    nullary main_cst_1 (constant S_ .f32 0x40000000#32),
    unary main_cst_1 main_v12 (broadcastInDim S32768x1024 ![] bcast_S_S32768x1024 : (⟨S_, .f32⟩ : BufTy).Contents (Elt F) → (⟨S32768x1024, .f32⟩ : BufTy).Contents (Elt F)),
    binary main_v12 main_v11 main_v13 (mulf : (⟨S32768x1024, .f32⟩ : BufTy).Contents (Elt F) → (⟨S32768x1024, .f32⟩ : BufTy).Contents (Elt F) → (⟨S32768x1024, .f32⟩ : BufTy).Contents (Elt F)),
    binary main_v9 main_v13 main_v14 (subf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v14) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v14) (TRef.of (T := ⟨S32768x1024, .i32⟩) main_call0_v0) (TRef.of (T := ⟨S_, .f32⟩) main_call0_cst) (TRef.of (T := ⟨S_, .i32⟩) main_call0_c) (TRef.of (T := ⟨S32768, .i32⟩) main_v15) (fun x y u v j => (Host.argReduce reducer_argmin_f32_i32 x y u v reducesTo_S32768x1024_S32768_d1 h_S_ j).2),
    TRef.unary (TRef.of (T := ⟨S32768, .i32⟩) main_v15) (TRef.of (T := ⟨S32768x1, .i32⟩) main_call1_v0) (broadcastInDim S32768x1 ![0] bcast_S32768_S32768x1_0),
    TRef.nullary (TRef.of (T := ⟨S1x1024, .i32⟩) main_call1_v1) (iotaInDim S1x1024 32 1),
    TRef.unary (TRef.of (T := ⟨S32768x1, .i32⟩) main_call1_v0) (TRef.of (T := ⟨S32768x1024, .i32⟩) main_call1_v2) (broadcastInDim S32768x1024 ![0, 1] bcast_S32768x1_S32768x1024_0_1),
    TRef.unary (TRef.of (T := ⟨S1x1024, .i32⟩) main_call1_v1) (TRef.of (T := ⟨S32768x1024, .i32⟩) main_call1_v3) (broadcastInDim S32768x1024 ![0, 1] bcast_S1x1024_S32768x1024_0_1),
    TRef.binary (TRef.of (T := ⟨S32768x1024, .i32⟩) main_call1_v2) (TRef.of (T := ⟨S32768x1024, .i32⟩) main_call1_v3) (TRef.of (T := ⟨S32768x1024, .i1⟩) main_call1_v4) (cmpi .eq),
    TRef.unary (TRef.of (T := ⟨S32768x1024, .i1⟩) main_call1_v4) (TRef.of (T := ⟨S32768x1024, .f32⟩) main_v16) (uitofp .f32),
    binary main_v16 main_arg3 main_v17 ((fun l r => Host.dotGeneral dot_S32768x1024_S1024x64_S32768x64_1_0_0_1_n_n none l r) : (⟨S32768x1024, .f32⟩ : BufTy).Contents (Elt F) → (⟨S1024x64, .f32⟩ : BufTy).Contents (Elt F) → (⟨S32768x64, .f32⟩ : BufTy).Contents (Elt F)),
    reshape main_v17 main_v18 (rfl : (.f32 : EltTy) = .f32) shapeCasts_S32768x64_S32x64x32x32,
    nullary main_cst_2 (constant S_ .f32 0x00000000#32),
    binary main_v16 main_cst_2 main_v19 ((fun x v => Host.reduceAdd x v reducesTo_S32768x1024_S1024_d0 h_S_) : (⟨S32768x1024, .f32⟩ : BufTy).Contents (Elt F) → (⟨S_, .f32⟩ : BufTy).Contents (Elt F) → (⟨S1024, .f32⟩ : BufTy).Contents (Elt F)),
    unary main_v19 main_v20 (broadcastInDim S1x1024 ![1] bcast_S1024_S1x1024_1 : (⟨S1024, .f32⟩ : BufTy).Contents (Elt F) → (⟨S1x1024, .f32⟩ : BufTy).Contents (Elt F)),
    nullary main_cst_3 (constant S_ .f32 0x3F800000#32),
    unary main_cst_3 main_v21 (broadcastInDim S1x1024 ![] bcast_S_S1x1024 : (⟨S_, .f32⟩ : BufTy).Contents (Elt F) → (⟨S1x1024, .f32⟩ : BufTy).Contents (Elt F)),
    nullary main_cst_4 (constant S_ .f32 0x3F7D70A4#32),
    unary main_cst_4 main_v22 (broadcastInDim S1x1024 ![] bcast_S_S1x1024 : (⟨S_, .f32⟩ : BufTy).Contents (Elt F) → (⟨S1x1024, .f32⟩ : BufTy).Contents (Elt F)),
    binary main_v21 main_v22 main_v23 (mulf : (⟨S1x1024, .f32⟩ : BufTy).Contents (Elt F) → (⟨S1x1024, .f32⟩ : BufTy).Contents (Elt F) → (⟨S1x1024, .f32⟩ : BufTy).Contents (Elt F)),
    nullary main_cst_5 (constant S_ .f32 0x3C23D70A#32),
    unary main_cst_5 main_v24 (broadcastInDim S1x1024 ![] bcast_S_S1x1024 : (⟨S_, .f32⟩ : BufTy).Contents (Elt F) → (⟨S1x1024, .f32⟩ : BufTy).Contents (Elt F)),
    binary main_v20 main_v24 main_v25 (mulf : (⟨S1x1024, .f32⟩ : BufTy).Contents (Elt F) → (⟨S1x1024, .f32⟩ : BufTy).Contents (Elt F) → (⟨S1x1024, .f32⟩ : BufTy).Contents (Elt F)),
    binary main_v23 main_v25 main_v26 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x00000000#32),
    unary main_cst_6 main_v27 (broadcastInDim S1024x64 ![] bcast_S_S1024x64 : (⟨S_, .f32⟩ : BufTy).Contents (Elt F) → (⟨S1024x64, .f32⟩ : BufTy).Contents (Elt F)),
    unary main_v15 main_v28 (broadcastInDim S32768x1 ![0] bcast_S32768_S32768x1_0 : (⟨S32768, .i32⟩ : BufTy).Contents (Elt F) → (⟨S32768x1, .i32⟩ : BufTy).Contents (Elt F)),
    ternary main_v27 main_v28 main_v0 main_v29 ((fun x i u => Host.scatterAdd scatter_S1024x64_S32768x1_S32768x64_1_0_0_1 x i u) : (⟨S1024x64, .f32⟩ : BufTy).Contents (Elt F) → (⟨S32768x1, .i32⟩ : BufTy).Contents (Elt F) → (⟨S32768x64, .f32⟩ : BufTy).Contents (Elt F) → (⟨S1024x64, .f32⟩ : BufTy).Contents (Elt F)),
    nullary main_cst_7 (constant S_ .f32 0x3F800000#32),
    unary main_cst_7 main_v30 (broadcastInDim S1024x64 ![] bcast_S_S1024x64 : (⟨S_, .f32⟩ : BufTy).Contents (Elt F) → (⟨S1024x64, .f32⟩ : BufTy).Contents (Elt F)),
    nullary main_cst_8 (constant S_ .f32 0x3F7D70A4#32),
    unary main_cst_8 main_v31 (broadcastInDim S1024x64 ![] bcast_S_S1024x64 : (⟨S_, .f32⟩ : BufTy).Contents (Elt F) → (⟨S1024x64, .f32⟩ : BufTy).Contents (Elt F)),
    binary main_v31 main_v30 main_v32 (mulf : (⟨S1024x64, .f32⟩ : BufTy).Contents (Elt F) → (⟨S1024x64, .f32⟩ : BufTy).Contents (Elt F) → (⟨S1024x64, .f32⟩ : BufTy).Contents (Elt F)),
    nullary main_cst_9 (constant S_ .f32 0x3C23D70A#32),
    unary main_cst_9 main_v33 (broadcastInDim S1024x64 ![] bcast_S_S1024x64 : (⟨S_, .f32⟩ : BufTy).Contents (Elt F) → (⟨S1024x64, .f32⟩ : BufTy).Contents (Elt F)),
    binary main_v29 main_v33 main_v34 (mulf : (⟨S1024x64, .f32⟩ : BufTy).Contents (Elt F) → (⟨S1024x64, .f32⟩ : BufTy).Contents (Elt F) → (⟨S1024x64, .f32⟩ : BufTy).Contents (Elt F)),
    binary main_v32 main_v34 main_v35 (addf : (⟨S1024x64, .f32⟩ : BufTy).Contents (Elt F) → (⟨S1024x64, .f32⟩ : BufTy).Contents (Elt F) → (⟨S1024x64, .f32⟩ : BufTy).Contents (Elt F)),
    reshape main_v26 main_v36 (rfl : (.f32 : EltTy) = .f32) shapeCasts_S1x1024_S1024,
    unary main_v36 main_v37 (broadcastInDim S1024x1 ![0] bcast_S1024_S1024x1_0 : (⟨S1024, .f32⟩ : BufTy).Contents (Elt F) → (⟨S1024x1, .f32⟩ : BufTy).Contents (Elt F)),
    unary main_v37 main_v38 (broadcastInDim S1024x64 ![0, 1] bcast_S1024x1_S1024x64_0_1 : (⟨S1024x1, .f32⟩ : BufTy).Contents (Elt F) → (⟨S1024x64, .f32⟩ : BufTy).Contents (Elt F)),
    binary main_v35 main_v38 main_v39 (Host.divf : (⟨S1024x64, .f32⟩ : BufTy).Contents (Elt F) → (⟨S1024x64, .f32⟩ : BufTy).Contents (Elt F) → (⟨S1024x64, .f32⟩ : BufTy).Contents (Elt F)),
    binary main_v18 main_arg0 main_v40 (subf : (⟨S32x64x32x32, .f32⟩ : BufTy).Contents (Elt F) → (⟨S32x64x32x32, .f32⟩ : BufTy).Contents (Elt F) → (⟨S32x64x32x32, .f32⟩ : BufTy).Contents (Elt F)),
    binary main_v40 main_v40 main_v41 (mulf : (⟨S32x64x32x32, .f32⟩ : BufTy).Contents (Elt F) → (⟨S32x64x32x32, .f32⟩ : BufTy).Contents (Elt F) → (⟨S32x64x32x32, .f32⟩ : BufTy).Contents (Elt F)),
    nullary main_cst_10 (constant S_ .f32 0x00000000#32),
    binary main_v41 main_cst_10 main_v42 ((fun x v => Host.reduceAdd x v reducesTo_S32x64x32x32_S_d0_1_2_3 h_S_) : (⟨S32x64x32x32, .f32⟩ : BufTy).Contents (Elt F) → (⟨S_, .f32⟩ : BufTy).Contents (Elt F) → (⟨S_, .f32⟩ : BufTy).Contents (Elt F)),
    nullary main_cst_11 (constant S_ .f32 0x4A000000#32),
    binary main_v42 main_cst_11 main_v43 (Host.divf : (⟨S_, .f32⟩ : BufTy).Contents (Elt F) → (⟨S_, .f32⟩ : BufTy).Contents (Elt F) → (⟨S_, .f32⟩ : BufTy).Contents (Elt F)),
    nullary main_cst_12 (constant S_ .f32 0x3F800000#32),
    binary main_cst_12 main_v43 main_v44 (mulf : (⟨S_, .f32⟩ : BufTy).Contents (Elt F) → (⟨S_, .f32⟩ : BufTy).Contents (Elt F) → (⟨S_, .f32⟩ : BufTy).Contents (Elt F)),
    binary main_v18 main_arg0 main_v45 (subf : (⟨S32x64x32x32, .f32⟩ : BufTy).Contents (Elt F) → (⟨S32x64x32x32, .f32⟩ : BufTy).Contents (Elt F) → (⟨S32x64x32x32, .f32⟩ : BufTy).Contents (Elt F)),
    binary main_v45 main_v45 main_v46 (mulf : (⟨S32x64x32x32, .f32⟩ : BufTy).Contents (Elt F) → (⟨S32x64x32x32, .f32⟩ : BufTy).Contents (Elt F) → (⟨S32x64x32x32, .f32⟩ : BufTy).Contents (Elt F)),
    nullary main_cst_13 (constant S_ .f32 0x00000000#32),
    binary main_v46 main_cst_13 main_v47 ((fun x v => Host.reduceAdd x v reducesTo_S32x64x32x32_S_d0_1_2_3 h_S_) : (⟨S32x64x32x32, .f32⟩ : BufTy).Contents (Elt F) → (⟨S_, .f32⟩ : BufTy).Contents (Elt F) → (⟨S_, .f32⟩ : BufTy).Contents (Elt F)),
    nullary main_cst_14 (constant S_ .f32 0x4A000000#32),
    binary main_v47 main_cst_14 main_v48 (Host.divf : (⟨S_, .f32⟩ : BufTy).Contents (Elt F) → (⟨S_, .f32⟩ : BufTy).Contents (Elt F) → (⟨S_, .f32⟩ : BufTy).Contents (Elt F)),
    binary main_v18 main_arg0 main_v49 (subf : (⟨S32x64x32x32, .f32⟩ : BufTy).Contents (Elt F) → (⟨S32x64x32x32, .f32⟩ : BufTy).Contents (Elt F) → (⟨S32x64x32x32, .f32⟩ : BufTy).Contents (Elt F)),
    binary main_arg0 main_v49 main_v50 (addf : (⟨S32x64x32x32, .f32⟩ : BufTy).Contents (Elt F) → (⟨S32x64x32x32, .f32⟩ : BufTy).Contents (Elt F) → (⟨S32x64x32x32, .f32⟩ : BufTy).Contents (Elt F)),
    nullary main_cst_15 (constant S_ .f32 0x00000000#32),
    binary main_v16 main_cst_15 main_v51 ((fun x v => Host.reduceAdd x v reducesTo_S32768x1024_S1024_d0 h_S_) : (⟨S32768x1024, .f32⟩ : BufTy).Contents (Elt F) → (⟨S_, .f32⟩ : BufTy).Contents (Elt F) → (⟨S1024, .f32⟩ : BufTy).Contents (Elt F)),
    nullary main_cst_16 (constant S_ .f32 0x47000000#32),
    unary main_cst_16 main_v52 (broadcastInDim S1024 ![] bcast_S_S1024 : (⟨S_, .f32⟩ : BufTy).Contents (Elt F) → (⟨S1024, .f32⟩ : BufTy).Contents (Elt F)),
    binary main_v51 main_v52 main_v53 (Host.divf : (⟨S1024, .f32⟩ : BufTy).Contents (Elt F) → (⟨S1024, .f32⟩ : BufTy).Contents (Elt F) → (⟨S1024, .f32⟩ : BufTy).Contents (Elt F)),
    nullary main_cst_17 (constant S_ .f32 0x2EDBE6FF#32),
    unary main_cst_17 main_v54 (broadcastInDim S1024 ![] bcast_S_S1024 : (⟨S_, .f32⟩ : BufTy).Contents (Elt F) → (⟨S1024, .f32⟩ : BufTy).Contents (Elt F)),
    binary main_v53 main_v54 main_v55 (addf : (⟨S1024, .f32⟩ : BufTy).Contents (Elt F) → (⟨S1024, .f32⟩ : BufTy).Contents (Elt F) → (⟨S1024, .f32⟩ : BufTy).Contents (Elt F)),
    unary main_v55 main_v56 (Host.log : (⟨S1024, .f32⟩ : BufTy).Contents (Elt F) → (⟨S1024, .f32⟩ : BufTy).Contents (Elt F)),
    binary main_v53 main_v56 main_v57 (mulf : (⟨S1024, .f32⟩ : BufTy).Contents (Elt F) → (⟨S1024, .f32⟩ : BufTy).Contents (Elt F) → (⟨S1024, .f32⟩ : BufTy).Contents (Elt F)),
    nullary main_cst_18 (constant S_ .f32 0x00000000#32),
    binary main_v57 main_cst_18 main_v58 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v58 main_v59 (Host.negf : (⟨S_, .f32⟩ : BufTy).Contents (Elt F) → (⟨S_, .f32⟩ : BufTy).Contents (Elt F)),
    unary main_v59 main_v60 (Host.exp : (⟨S_, .f32⟩ : BufTy).Contents (Elt F) → (⟨S_, .f32⟩ : BufTy).Contents (Elt F)),
    unary main_v15 main_v61 (broadcastInDim S32768x1 ![0] bcast_S32768_S32768x1_0 : (⟨S32768, .i32⟩ : BufTy).Contents (Elt F) → (⟨S32768x1, .i32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., reshape_bufs_sub .., nullary_bufs_sub .., binary_bufs_sub .., unary_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., binary_bufs_sub .., reshape_bufs_sub .., unary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub ..⟩

set_option maxRecDepth 8192 in
set_option maxHeartbeats 36400000 in
/-- From any memory with zero counters the reference terminates with each result at its stages' composition, the
    arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = meanSquare (quant (m ((c.tc : Thread nD τ).loc main_arg0)) (m ((c.tc : Thread nD τ).loc main_arg3))) (m ((c.tc : Thread nD τ).loc main_arg0))
      ∧ r.2.mem ((c.tc : Thread nD τ).loc main_v44) = mulf (constant S_ .f32 0x3F800000#32) (meanSquare (quant (m ((c.tc : Thread nD τ).loc main_arg0)) (m ((c.tc : Thread nD τ).loc main_arg3))) (m ((c.tc : Thread nD τ).loc main_arg0)))
      ∧ r.2.mem ((c.tc : Thread nD τ).loc main_v50) = addf (m ((c.tc : Thread nD τ).loc main_arg0)) (subf (quant (m ((c.tc : Thread nD τ).loc main_arg0)) (m ((c.tc : Thread nD τ).loc main_arg3))) (m ((c.tc : Thread nD τ).loc main_arg0)))
      ∧ r.2.mem ((c.tc : Thread nD τ).loc main_v60) = perplexity (shares (counts (hot (m ((c.tc : Thread nD τ).loc main_arg0)) (m ((c.tc : Thread nD τ).loc main_arg3)))))
      ∧ r.2.mem ((c.tc : Thread nD τ).loc main_v16) = hot (m ((c.tc : Thread nD τ).loc main_arg0)) (m ((c.tc : Thread nD τ).loc main_arg3))
      ∧ r.2.mem ((c.tc : Thread nD τ).loc main_v61) = broadcastInDim S32768x1 ![0] bcast_S32768_S32768x1_0 (idx (m ((c.tc : Thread nD τ).loc main_arg0)) (m ((c.tc : Thread nD τ).loc main_arg3)))
      ∧ r.2.mem ((c.tc : Thread nD τ).loc main_v39) = newCodes (counts (hot (m ((c.tc : Thread nD τ).loc main_arg0)) (m ((c.tc : Thread nD τ).loc main_arg3)))) (idx (m ((c.tc : Thread nD τ).loc main_arg0)) (m ((c.tc : Thread nD τ).loc main_arg3))) (rows (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (run_seq scopedRefs_eq scopedSems_eq defs main (fun _ => ops) main_eq (fun _ => ops_sub) m ρ)
  refine ⟨(h c main_v48).trans ?_, (h c main_v44).trans ?_, (h c main_v50).trans ?_, (h c main_v60).trans ?_, (h c main_v16).trans ?_, (h c main_v61).trans ?_, (h c main_v39).trans ?_, (h c main_arg0).trans ?_, (h c main_arg1).trans ?_, (h c main_arg2).trans ?_, (h c main_arg3).trans ?_⟩ <;>
    (simp only [ops, TRef.binary, TRef.nullary, TRef.quaternary, TRef.unary, TRef.toBuf, TRef.ofBuf, cast_eq]; after_results_simp <;> rfl)

end Cert.RefRun

end
-- ==== Proof.RefRead.lean ====
/- The reference program's stages entry by entry, in terms of the rows and the codebook. -/
module

public import proofs.«01_k».proof.Proof.RefRun
public import proofs.«01_k».proof.Proof.Spec
public import Idealize.ShloMosaic.Lib.Pointwise
public import Idealize.ShloMosaic.Lib.Routing.OpsPair
public import Idealize.ShloMosaic.Lib.Routing.OpsPair

@[expose] public section

set_option maxRecDepth 16384

noncomputable section

namespace Cert.RefRead

open Idealize.ShloMosaic Idealize.ShloMosaic.TcCoe Idealize.SL.Sem
open Cert.ReferenceIdeal Cert.ReferenceIdeal.Gen Cert.FirstMin Cert.Spec

variable (z : FVec Ideal S32768x64 .f32) (E : FVec Ideal S1024x64 .f32)

/-! ### What each row chooses -/

theorem dist_apply (n : Fin 32768) (e : Fin 1024) : RefRun.dist z E (ix2 n e) = dist (rowsOf z n) (rowsOf E) e := by
  pointwise [RefRun.dist]
  rfl

/-- The reducer keeps the lesser of two pairs: the lesser value, or at equal values the lower place. -/
theorem reducer_least (a b : EReal × BitVec 32) :
    (reducer_argmin_f32_i32 (F := Ideal) a b = a ∧ Le a b) ∨ (reducer_argmin_f32_i32 (F := Ideal) a b = b ∧ Le b a) := by
  obtain ⟨x, v⟩ := a
  obtain ⟨y, w⟩ := b
  have slt : IntOp.cmpi .slt v w = BitVec.ofBool (decide (v.toInt < w.toInt)) := rfl
  rcases lt_trichotomy x y with h | h | h
  · left
    refine ⟨?_, .inl h⟩
    simp [reducer_argmin_f32_i32, Ideal.cmpf_def, Ideal.cmp, IntOp.ori, IntOp.andi, Scalar.select, slt, h, h.ne]
  · subst h
    by_cases l : v.toInt < w.toInt
    · left
      refine ⟨?_, .inr ⟨rfl, l.le⟩⟩
      simp [reducer_argmin_f32_i32, Ideal.cmpf_def, Ideal.cmp, IntOp.ori, IntOp.andi, Scalar.select, slt, l]
    · right
      refine ⟨?_, .inr ⟨rfl, not_lt.1 l⟩⟩
      simp [reducer_argmin_f32_i32, Ideal.cmpf_def, Ideal.cmp, IntOp.ori, IntOp.andi, Scalar.select, slt, l]
  · right
    refine ⟨?_, .inl h⟩
    simp [reducer_argmin_f32_i32, Ideal.cmpf_def, Ideal.cmp, IntOp.ori, IntOp.andi, Scalar.select, slt, h.not_gt, h.ne']

/-- The pairs that are reduced for a row: its values with their places. -/
theorem mem_fiber (d : FVec Ideal S32768x1024 .f32) (n : Fin 32768) (p : EReal × BitVec 32) :
    p ∈ Host.argReduceFiber d (iotaInDim S32768x1024 32 1) reducesTo_S32768x1024_S32768_d1 (ix1 n)
      ↔ ∃ e : Fin 1024, p = (d (ix2 n e), BitVec.ofNat 32 ↑e) := by
  unfold Host.argReduceFiber
  rw [List.mem_map]
  constructor
  · rintro ⟨k, hk, rfl⟩
    rw [List.mem_filter, decide_eq_true_iff, Shape.ReducesTo.fiber_r2_a1] at hk
    obtain ⟨-, e, he⟩ := hk
    refine ⟨e, ?_⟩
    rw [← he]
    rfl
  · rintro ⟨e, rfl⟩
    refine ⟨S32768x1024.rowMajor (ix2 n e), ?_, ?_⟩
    · rw [List.mem_filter, decide_eq_true_iff, Equiv.symm_apply_apply, Shape.ReducesTo.fiber_r2_a1]
      exact ⟨List.mem_finRange _, e, rfl⟩
    · rw [Equiv.symm_apply_apply]
      rfl

/-- A reduction of pairs that keeps the lesser one, from the top and place 0, over values with their places, ends at the first minimum. -/
theorem argReduce_firstMin {s t u : Shape} {axes : List (Fin s.rank)} (R : EReal × BitVec 32 → EReal × BitVec 32 → EReal × BitVec 32)
    (x : FVec Ideal s .f32) (y : s.Idx → BitVec 32) (ix : u.Idx → EReal) (iy : u.Idx → BitVec 32) (h : s.ReducesTo axes t) (hu : 0 < u.numel)
    (j : t.Idx) (d : Fin 1024 → EReal) (hR : ∀ a b, (R a b = a ∧ Le a b) ∨ (R a b = b ∧ Le b a)) (hx : ix (Shape.Idx.first hu) = ⊤)
    (hy : iy (Shape.Idx.first hu) = 0#32)
    (hL : ∀ p, p ∈ Host.argReduceFiber x y h j ↔ ∃ e : Fin 1024, p = (d e, BitVec.ofNat 32 ↑e)) :
    (Host.argReduce (F := Ideal) (φ := .f32) R x y ix iy h hu j).2 = BitVec.ofNat 32 ↑(firstMin d) := by
  rw [Ideal.argReduce_eq_reduce2, Host.reduce2_eq_foldl_fiber, hx, hy]
  exact foldl_firstMin d R hR _ hL

/-- The reduction at a row. -/
theorem least_apply (n : Fin 32768) :
    (Host.argReduce (F := Ideal) (reducer_argmin_f32_i32 (F := Ideal)) (RefRun.dist z E) (iotaInDim S32768x1024 32 1)
      (constant (F := Ideal) S_ .f32 0x7F800000#32) (constantI S_ 32 0#32) reducesTo_S32768x1024_S32768_d1 h_S_ (ix1 n)).2
      = BitVec.ofNat 32 ↑(firstMin (dist (rowsOf z n) (rowsOf E))) :=
  argReduce_firstMin (reducer_argmin_f32_i32 (F := Ideal)) (RefRun.dist z E) (iotaInDim S32768x1024 32 1)
    (constant (F := Ideal) S_ .f32 0x7F800000#32) (constantI S_ 32 0#32) reducesTo_S32768x1024_S32768_d1 h_S_ (ix1 n)
    (dist (rowsOf z n) (rowsOf E)) reducer_least ofBits_top rfl fun p => by
      rw [mem_fiber]
      simp only [dist_apply]

/-- The chosen entries' words. -/
theorem nearest_eq : RefRun.nearest (RefRun.dist z E) = nearArr z E := by
  have e : RefRun.nearest (RefRun.dist z E) = fun j =>
    (Host.argReduce (F := Ideal) (reducer_argmin_f32_i32 (F := Ideal)) (RefRun.dist z E) (iotaInDim S32768x1024 32 1)
      (constant (F := Ideal) S_ .f32 0x7F800000#32) (constantI S_ 32 0#32) reducesTo_S32768x1024_S32768_d1 h_S_ j).2 := rfl
  rw [e]
  funext j
  idx_vars j
  rw [least_apply]
  rfl

/-- The one-hot rows. -/
theorem oneHot_eq : RefRun.oneHot (F := Ideal) (nearArr z E) = hotArr z E := by
  funext j
  idx_vars j
  pointwise [RefRun.oneHot]
  show FloatOps.uitofp .f32 (IntOp.cmpi .eq (BitVec.ofNat 32 ↑(near (rowsOf z j0) (rowsOf E))) (BitVec.ofNat 32 ↑j1)) = _
  rw [cmpi_place, unsigned_bit]
  show _ = if j1 = near (rowsOf z j0) (rowsOf E) then (1 : EReal) else 0
  simp only [eq_comm]

/-- The rows that stand for the input's rows, with their two axes. -/
def codeArr : FVec Ideal S32768x64 .f32 := fun y => code (rowsOf z (y 0)) (rowsOf E) (y 1)

theorem quantised_eq : RefRun.quantised (hotArr z E) E = shapeCast S32x64x32x32 (codeArr z E) shapeCasts_S32768x64_S32x64x32x32 := by
  unfold RefRun.quantised
  refine congrArg (fun v => shapeCast S32x64x32x32 v shapeCasts_S32768x64_S32x64x32x32) ?_
  funext j
  idx_vars j
  pointwise
  rfl

/-! ### Sums over the rows -/

theorem counts_apply (e : Fin 1024) : RefRun.counts (F := Ideal) (hotArr z E) (ix1 e) = count (rowsOf z) (rowsOf E) e := by
  pointwise [RefRun.counts]
  rfl

/-- Where an update's entry lands: in the row its word names, in its own column. -/
theorem lands (w : IVec S32768x1 32) (n : Fin 32768) (k : Fin 64) (e : Fin 1024) (l : Fin 64) :
    scatter_S1024x64_S32768x1_S32768x64_1_0_0_1.resultIdx? (ix2 n k) w = some (ix2 e l) ↔ (w (ix2 n 0)).toInt = e.val ∧ k = l := by
  rw [Routing.resultIdx?_eq_some, Fin.forall_fin_two]
  have s0 : scatter_S1024x64_S32768x1_S32768x64_1_0_0_1.start (ix2 n k) w 0 = (w (ix2 n 0)).toInt := by
    unfold ScatterDims.start
    rw [dif_pos (by decide)]
    refine congrArg (fun i => (w i).toInt) (funext fun a => ?_)
    fin_cases a <;> rfl
  have s1 : scatter_S1024x64_S32768x1_S32768x64_1_0_0_1.start (ix2 n k) w 1 = 0 := by
    unfold ScatterDims.start
    rw [dif_neg (by decide)]
  have w0 : scatter_S1024x64_S32768x1_S32768x64_1_0_0_1.window (ix2 n k) 0 = 0 := by
    unfold ScatterDims.window
    rw [dif_neg (by decide)]
  have w1 : scatter_S1024x64_S32768x1_S32768x64_1_0_0_1.window (ix2 n k) 1 = k.val := by
    unfold ScatterDims.window
    rw [dif_pos (by decide)]
    rfl
  rw [s0, s1, w0, w1, Fin.ext_iff]
  show (w (ix2 n 0)).toInt + ((0 : ℕ) : Int) = (e.val : Int) ∧ (0 : Int) + (k.val : Int) = (l.val : Int) ↔ _
  omega

end Cert.RefRead

end
-- ==== Proof.RefResults.lean ====
/- The reference program's results, in terms of the input's rows and the codebook. -/
module

public import proofs.«01_k».proof.Proof.RefRead
public import Idealize.ShloMosaic.Lib.Pipeline.Value
public import Idealize.ShloMosaic.Lib.Pointwise

@[expose] public section

set_option maxRecDepth 16384

noncomputable section

namespace Cert.RefResults

open Idealize.ShloMosaic Idealize.ShloMosaic.TcCoe Idealize.SL.Sem
open Cert.ReferenceIdeal Cert.ReferenceIdeal.Gen Cert.FirstMin Cert.Spec Cert.RefRead

section Stages

variable (z : FVec Ideal S32768x64 .f32) (E : FVec Ideal S1024x64 .f32)

/-- The scatter adds to each entry the rows that chose it. -/
theorem scatter_apply (e : Fin 1024) (k : Fin 64) :
    Host.scatterAdd (F := Ideal) scatter_S1024x64_S32768x1_S32768x64_1_0_0_1 (broadcastInDim S1024x64 ![] bcast_S_S1024x64 (constant (F := Ideal) S_ .f32 0x00000000#32))
      (broadcastInDim S32768x1 ![0] bcast_S32768_S32768x1_0 (nearArr z E)) z (ix2 e k) = rowSum (rowsOf z) (rowsOf E) e k := by
  show Ideal.hostScatterAdd _ _ _ _ _ = _
  unfold Ideal.hostScatterAdd
  have zero : broadcastInDim S1024x64 ![] bcast_S_S1024x64 (constant (F := Ideal) S_ .f32 0x00000000#32) (ix2 e k) = (0 : EReal) := by
    pointwise
  rw [zero, zero_add, Finset.sum_filter, sum_idx2]
  refine Finset.sum_congr rfl fun n _ => ?_
  have word : broadcastInDim S32768x1 ![0] bcast_S32768_S32768x1_0 (nearArr z E) (ix2 n 0) = BitVec.ofNat 32 ↑(near (rowsOf z n) (rowsOf E)) := by
    pointwise
    rfl
  have here : ((near (rowsOf z n) (rowsOf E)).val : Int) = e.val ↔ e = near (rowsOf z n) (rowsOf E) := by
    rw [Fin.ext_iff]; omega
  simp only [lands, word, toInt_ofNat _ (near (rowsOf z n) (rowsOf E)).isLt.le, here]
  unfold hot
  by_cases c : e = near (rowsOf z n) (rowsOf E)
  · simp only [c, true_and]
    rw [Finset.sum_ite_eq' Finset.univ k, if_pos (Finset.mem_univ k)]
    simp only [if_true, one_mul]
    rfl
  · simp only [c, false_and, if_false, Finset.sum_const_zero, zero_mul]

/-- The new codebook. -/
theorem newCodes_eq : RefRun.newCodes (F := Ideal) (RefRun.counts (hotArr z E)) (nearArr z E) z = newArr z E := by
  funext j
  idx_vars j
  pointwise [RefRun.newCodes]
  rw [scatter_apply, counts_apply]
  rfl

/-- The perplexity. -/
theorem perplexity_eq : RefRun.perplexity (F := Ideal) (RefRun.shares (RefRun.counts (hotArr z E))) = fun _ => perp (rowsOf z) (rowsOf E) := by
  have p : ∀ e, RefRun.shares (F := Ideal) (RefRun.counts (hotArr z E)) (ix1 e) = share (rowsOf z) (rowsOf E) e := fun e => by
    pointwise [RefRun.shares]
    rw [counts_apply, div_rows]
    rfl
  funext i
  pointwise [RefRun.perplexity]
  simp only [p]
  rfl

end Stages

section Results

variable (x : FVec Ideal S32x64x32x32 .f32) (E : FVec Ideal S1024x64 .f32)

theorem idx_eq : RefRun.idx x E = nearArr (RefRun.rows x) E := nearest_eq _ _

theorem hot_eq : RefRun.hot x E = hotArr (RefRun.rows x) E := by
  unfold RefRun.hot
  rw [idx_eq, oneHot_eq]

theorem quant_eq : RefRun.quant x E = shapeCast S32x64x32x32 (codeArr (RefRun.rows x) E) shapeCasts_S32768x64_S32x64x32x32 := by
  unfold RefRun.quant
  rw [hot_eq, quantised_eq]

/-- The input is its rows, read with four axes. -/
theorem rows_back : shapeCast S32x64x32x32 (RefRun.rows x) shapeCasts_S32768x64_S32x64x32x32 = x := shapeCast_shapeCast x _ _

/-- The straight-through array, of rows. -/
theorem straight_rows (z : FVec Ideal S32768x64 .f32) :
    addf (F := Ideal) (shapeCast S32x64x32x32 z shapeCasts_S32768x64_S32x64x32x32)
      (subf (shapeCast S32x64x32x32 (codeArr z E) shapeCasts_S32768x64_S32x64x32x32) (shapeCast S32x64x32x32 z shapeCasts_S32768x64_S32x64x32x32))
    = shapeCast S32x64x32x32 (straightArr z E) shapeCasts_S32768x64_S32x64x32x32 := rfl

/-- The straight-through array. -/
theorem straight_eq : addf (F := Ideal) x (subf (RefRun.quant x E) x)
    = shapeCast S32x64x32x32 (straightArr (RefRun.rows x) E) shapeCasts_S32768x64_S32x64x32x32 := by
  have h := straight_rows E (RefRun.rows x)
  rw [rows_back] at h
  rw [quant_eq]
  exact h

/-- The mean squared difference, of rows: a sum in another order. -/
theorem meanSquare_rows (z : FVec Ideal S32768x64 .f32) :
    RefRun.meanSquare (F := Ideal) (shapeCast S32x64x32x32 (codeArr z E) shapeCasts_S32768x64_S32x64x32x32)
      (shapeCast S32x64x32x32 z shapeCasts_S32768x64_S32x64x32x32) = fun _ => meanErr (rowsOf z) (rowsOf E) := by
  funext i
  pointwise [RefRun.meanSquare]
  rw [div_numbers, Ideal.hostReduceAdd_total _ (fun b => b.elim0), zero_add]
  unfold meanErr sqErr
  refine congrArg (· * Ideal.ofBits .f32 0x35000000#32) ?_
  refine (Equiv.sum_comp (Shape.reshapeEquiv shapeCasts_S32768x64_S32x64x32x32)
    (fun j : S32768x64.Idx => ((codeArr z E j - z j) * (codeArr z E j - z j) : EReal))).trans ?_
  rw [sum_idx2]
  rfl

/-- The mean squared difference. -/
theorem meanSquare_eq : RefRun.meanSquare (F := Ideal) (RefRun.quant x E) x = fun _ => meanErr (rowsOf (RefRun.rows x)) (rowsOf E) := by
  have h := meanSquare_rows E (RefRun.rows x)
  rw [rows_back] at h
  rw [quant_eq]
  exact h

end Results

variable (m : (ℓ : Loc nD τ sig) → Buf (Elt Ideal) ℓ) (ρ : Dev nD → PrngReg)

/-- The input as rows. -/
def inRows (c : Dev nD) : FVec Ideal S32768x64 .f32 := RefRun.rows (m ((c.tc : Thread nD τ).loc main_arg0) : FVec Ideal S32x64x32x32 .f32)

/-- The codebook. -/
def book (c : Dev nD) : FVec Ideal S1024x64 .f32 := m ((c.tc : Thread nD τ).loc main_arg3)

/-- The run: the seven results in terms of the input's rows and the codebook, and the arguments as they were. -/
theorem run : θ_run defs (onTc (τ := τ) (main (F := Ideal))) ⟨m, fun _ => 0, ρ⟩ fun r => ∀ c : Dev nD,
      r.2.mem ((c.tc : Thread nD τ).loc main_v48) = (fun _ => meanErr (rowsOf (inRows m c)) (rowsOf (book m c)))
      ∧ r.2.mem ((c.tc : Thread nD τ).loc main_v44)
          = mulf (F := Ideal) (constant S_ .f32 0x3F800000#32) (fun _ => meanErr (rowsOf (inRows m c)) (rowsOf (book m c)))
      ∧ r.2.mem ((c.tc : Thread nD τ).loc main_v50) = shapeCast S32x64x32x32 (straightArr (inRows m c) (book m c)) shapeCasts_S32768x64_S32x64x32x32
      ∧ r.2.mem ((c.tc : Thread nD τ).loc main_v60) = (fun _ => perp (rowsOf (inRows m c)) (rowsOf (book m c)))
      ∧ r.2.mem ((c.tc : Thread nD τ).loc main_v16) = hotArr (inRows m c) (book m c)
      ∧ r.2.mem ((c.tc : Thread nD τ).loc main_v61) = broadcastInDim S32768x1 ![0] bcast_S32768_S32768x1_0 (nearArr (inRows m c) (book m c))
      ∧ r.2.mem ((c.tc : Thread nD τ).loc main_v39) = newArr (inRows m c) (book m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (RefRun.run (F := Ideal) m ρ)
  obtain ⟨h0, h1, h2, h3, h4, h5, h6, args⟩ := h c
  rw [meanSquare_eq] at h0 h1
  rw [straight_eq] at h2
  rw [hot_eq, perplexity_eq] at h3
  rw [hot_eq] at h4
  rw [idx_eq] at h5
  rw [hot_eq, idx_eq, newCodes_eq] at h6
  exact ⟨h0, h1, h2, h3, h4, h5, h6, args⟩

end Cert.RefResults

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefResults
public import Idealize.ShloMosaic.Adequacy
public import Idealize.ShloMosaic.Init

@[expose] public section

noncomputable section

namespace Cert.Proof

open Idealize.ShloMosaic Idealize.SL.Sem

/-- The reference run ends with its arguments as they were and every semaphore at zero. -/
theorem reference_frame : Cert.quiescent_ReferenceIdeal := fun m ρ _ =>
  (θ_run Cert.ReferenceIdeal.defs _ _).mono
    (fun r h => ⟨fun c => let ⟨_, _, _, _, _, _, _, args⟩ := h c; args, Idealize.ShloMosaic.sem_eq_zero_of_no_sems (by decide) r.2⟩)
    (Cert.RefRun.run (F := Ideal) m ρ)

/-- From equal arguments the two programs leave equal results. -/
theorem results_agree : Cert.algebraic_KernelIdeal_ReferenceIdeal := by
  intro m g m' g' _ hagree
  refine ⟨_, _, _, _, _, _, _, Cert.KernelRun.run m g, ?_⟩
  have rows : ∀ c, Cert.RefResults.inRows m' c = Cert.KernelState.inRows m c := fun c =>
    congrArg (fun x => shapeCast Cert.KernelIdeal.S32768x64 (x : FVec Ideal Cert.KernelIdeal.S32x64x32x32 .f32)
      Cert.KernelIdeal.Gen.shapeCasts_S32x64x32x32_S32768x64) (hagree c).1
  have book : ∀ c, Cert.RefResults.book m' c = Cert.KernelState.book m c := fun c => (hagree c).2.2.2
  refine (θ_run Cert.ReferenceIdeal.defs _ _).mono (fun r h c => ?_) (Cert.RefResults.run m' g')
  have h := h c
  rw [rows, book] at h
  exact h

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, results_agree⟩

end Cert.Proof

end
